-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  IdealRules.named_const.Statement Cert.KernelIdeal.κ "gelu_kc" .f32 0x3D122279#32 (((Real.sqrt (2 * Real.pi⁻¹)) * (8943 / 200000) : ℝ) : EReal)
  ∧ IdealRules.named_const.Statement Cert.KernelIdeal.κ "gelu_k" .f32 0x3F4C422A#32 ((Real.sqrt (2 * Real.pi⁻¹) : ℝ) : EReal)
  ∧ IdealRules.named_const.Statement Cert.KernelIdeal.κ "gelu_k_third" .f32 0x3E882C1C#32 (((Real.sqrt (2 * Real.pi⁻¹)) * (1 / 3) : ℝ) : EReal)
  ∧ IdealRules.named_const.Statement Cert.KernelIdeal.κ "third" .f32 0x3EAAAAAB#32 ((1 / 3 : ℝ) : EReal)

def preserves_Reference_ReferenceIdeal : Prop :=
  IdealRules.named_const.Statement Cert.ReferenceIdeal.κ "gelu_c" .f32 0x3D372713#32 ((8943 / 200000 : ℝ) : EReal)
  ∧ IdealRules.named_const.Statement Cert.ReferenceIdeal.κ "gelu_k" .f32 0x3F4C422A#32 ((Real.sqrt (2 * Real.pi⁻¹) : ℝ) : EReal)
  ∧ IdealRules.named_const.Statement Cert.ReferenceIdeal.κ "gelu_3c" .f32 0x3E095D4F#32 ((26829 / 200000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S19456x6656 : Shape := ⟨2, ![19456, 6656]⟩
abbrev S1x6656 : Shape := ⟨2, ![1, 6656]⟩
abbrev S19456x52 : Shape := ⟨2, ![19456, 52]⟩
abbrev S6656x19456 : Shape := ⟨2, ![6656, 19456]⟩
abbrev S6656x152 : Shape := ⟨2, ![6656, 152]⟩
abbrev S128x6656 : Shape := ⟨2, ![128, 6656]⟩
abbrev S128x52 : Shape := ⟨2, ![128, 52]⟩
abbrev S6656x128 : Shape := ⟨2, ![6656, 128]⟩
abbrev S152x1x6656 : Shape := ⟨3, ![152, 1, 6656]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1x128 : Shape := ⟨3, ![1, 1, 128]⟩
abbrev S152x6656 : Shape := ⟨2, ![152, 6656]⟩

abbrev nBuf : Space → Nat
  | .hbm => 7
  | .vmem => 13
  | .smem => 0
  | _ => 0

abbrev bufTy : (tb : Table) → Fin (tcTables nBuf tb) → BufTy
  | .hbm, ⟨0, _⟩ => ⟨S19456x6656, .bf16⟩
  | .hbm, ⟨1, _⟩ => ⟨S19456x6656, .bf16⟩
  | .hbm, ⟨2, _⟩ => ⟨S1x6656, .f32⟩
  | .hbm, ⟨3, _⟩ => ⟨S19456x6656, .fp8e5m2⟩
  | .hbm, ⟨4, _⟩ => ⟨S19456x52, .f32⟩
  | .hbm, ⟨5, _⟩ => ⟨S6656x19456, .fp8e5m2⟩
  | .hbm, ⟨6, _⟩ => ⟨S6656x152, .f32⟩
  | .local _ .vmem, ⟨0, _⟩ => ⟨S128x6656, .bf16⟩
  | .local _ .vmem, ⟨1, _⟩ => ⟨S128x6656, .bf16⟩
  | .local _ .vmem, ⟨2, _⟩ => ⟨S128x6656, .bf16⟩
  | .local _ .vmem, ⟨3, _⟩ => ⟨S128x6656, .bf16⟩
  | .local _ .vmem, ⟨4, _⟩ => ⟨S1x6656, .f32⟩
  | .local _ .vmem, ⟨5, _⟩ => ⟨S128x6656, .fp8e5m2⟩
  | .local _ .vmem, ⟨6, _⟩ => ⟨S128x6656, .fp8e5m2⟩
  | .local _ .vmem, ⟨7, _⟩ => ⟨S128x52, .f32⟩
  | .local _ .vmem, ⟨8, _⟩ => ⟨S128x52, .f32⟩
  | .local _ .vmem, ⟨9, _⟩ => ⟨S6656x128, .fp8e5m2⟩
  | .local _ .vmem, ⟨10, _⟩ => ⟨S6656x128, .fp8e5m2⟩
  | .local _ .vmem, ⟨11, _⟩ => ⟨S6656x152, .f32⟩
  | .local _ .vmem, ⟨12, _⟩ => ⟨S152x1x6656, .f32⟩
  | _, _ => ⟨S19456x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![152], ![false]⟩

def k0_off1 (i : grid0.Coords) : Fin 3 → Nat :=
  let arg0 : BitVec 32 := BitVec.ofNat 32 (i 0).val
  let v90 : Index := Scalar.indexCast arg0
  let c0_39 : Index := 0#32
  let c0_40 : Index := 0#32
  ![v90.toNat, 0, 0]
def k0_off2 (i : grid0.Coords) : Fin 3 → Nat :=
  let arg0 : BitVec 32 := BitVec.ofNat 32 (i 0).val
  let v190 : Index := Scalar.indexCast arg0
  let c0_83 : Index := 0#32
  let c128_84 : Index := 128#32
  ![v190.toNat, 0, 128]
def k0_off3 (i : grid0.Coords) : Fin 3 → Nat :=
  let arg0 : BitVec 32 := BitVec.ofNat 32 (i 0).val
  let v290 : Index := Scalar.indexCast arg0
  let c0_127 : Index := 0#32
  let c256_128 : Index := 256#32
  ![v290.toNat, 0, 256]
def k0_off4 (i : grid0.Coords) : Fin 3 → Nat :=
  let arg0 : BitVec 32 := BitVec.ofNat 32 (i 0).val
  let v390 : Index := Scalar.indexCast arg0
  let c0_171 : Index := 0#32
  let c384_172 : Index := 384#32
  ![v390.toNat, 0, 384]
def k0_off5 (i : grid0.Coords) : Fin 3 → Nat :=
  let arg0 : BitVec 32 := BitVec.ofNat 32 (i 0).val
  let v490 : Index := Scalar.indexCast arg0
  let c0_215 : Index := 0#32
  let c512_216 : Index := 512#32
  ![v490.toNat, 0, 512]
def k0_off6 (i : grid0.Coords) : Fin 3 → Nat :=
  let arg0 : BitVec 32 := BitVec.ofNat 32 (i 0).val
  let v590 : Index := Scalar.indexCast arg0
  let c0_259 : Index := 0#32
  let c640_260 : Index := 640#32
  ![v590.toNat, 0, 640]
def k0_off7 (i : grid0.Coords) : Fin 3 → Nat :=
  let arg0 : BitVec 32 := BitVec.ofNat 32 (i 0).val
  let v690 : Index := Scalar.indexCast arg0
  let c0_303 : Index := 0#32
  let c768_304 : Index := 768#32
  ![v690.toNat, 0, 768]
def k0_off8 (i : grid0.Coords) : Fin 3 → Nat :=
  let arg0 : BitVec 32 := BitVec.ofNat 32 (i 0).val
  let v790 : Index := Scalar.indexCast arg0
  let c0_347 : Index := 0#32
  let c896_348 : Index := 896#32
  ![v790.toNat, 0, 896]
def k0_off9 (i : grid0.Coords) : Fin 3 → Nat :=
  let arg0 : BitVec 32 := BitVec.ofNat 32 (i 0).val
  let v890 : Index := Scalar.indexCast arg0
  let c0_391 : Index := 0#32
  let c1024_392 : Index := 1024#32
  ![v890.toNat, 0, 1024]
def k0_off10 (i : grid0.Coords) : Fin 3 → Nat :=
  let arg0 : BitVec 32 := BitVec.ofNat 32 (i 0).val
  let v990 : Index := Scalar.indexCast arg0
  let c0_435 : Index := 0#32
  let c1152_436 : Index := 1152#32
  ![v990.toNat, 0, 1152]
def k0_off11 (i : grid0.Coords) : Fin 3 → Nat :=
  let arg0 : BitVec 32 := BitVec.ofNat 32 (i 0).val
  let v1090 : Index := Scalar.indexCast arg0
  let c0_479 : Index := 0#32
  let c1280_480 : Index := 1280#32
  ![v1090.toNat, 0, 1280]
def k0_off12 (i : grid0.Coords) : Fin 3 → Nat :=
  let arg0 : BitVec 32 := BitVec.ofNat 32 (i 0).val
  let v1190 : Index := Scalar.indexCast arg0
  let c0_523 : Index := 0#32
  let c1408_524 : Index := 1408#32
  ![v1190.toNat, 0, 1408]
def k0_off13 (i : grid0.Coords) : Fin 3 → Nat :=
  let arg0 : BitVec 32 := BitVec.ofNat 32 (i 0).val
  let v1290 : Index := Scalar.indexCast arg0
  let c0_567 : Index := 0#32
  let c1536_568 : Index := 1536#32
  ![v1290.toNat, 0, 1536]
def k0_off14 (i : grid0.Coords) : Fin 3 → Nat :=
  let arg0 : BitVec 32 := BitVec.ofNat 32 (i 0).val
  let v1390 : Index := Scalar.indexCast arg0
  let c0_611 : Index := 0#32
  let c1664_612 : Index := 1664#32
  ![v1390.toNat, 0, 1664]
def k0_off15 (i : grid0.Coords) : Fin 3 → Nat :=
  let arg0 : BitVec 32 := BitVec.ofNat 32 (i 0).val
  let v1490 : Index := Scalar.indexCast arg0
  let c0_655 : Index := 0#32
  let c1792_656 : Index := 1792#32
  ![v1490.toNat, 0, 1792]
def k0_off16 (i : grid0.Coords) : Fin 3 → Nat :=
  let arg0 : BitVec 32 := BitVec.ofNat 32 (i 0).val
  let v1590 : Index := Scalar.indexCast arg0
  let c0_699 : Index := 0#32
  let c1920_700 : Index := 1920#32
  ![v1590.toNat, 0, 1920]
def k0_off17 (i : grid0.Coords) : Fin 3 → Nat :=
  let arg0 : BitVec 32 := BitVec.ofNat 32 (i 0).val
  let v1690 : Index := Scalar.indexCast arg0
  let c0_743 : Index := 0#32
  let c2048_744 : Index := 2048#32
  ![v1690.toNat, 0, 2048]
def k0_off18 (i : grid0.Coords) : Fin 3 → Nat :=
  let arg0 : BitVec 32 := BitVec.ofNat 32 (i 0).val
  let v1790 : Index := Scalar.indexCast arg0
  let c0_787 : Index := 0#32
  let c2176_788 : Index := 2176#32
  ![v1790.toNat, 0, 2176]
def k0_off19 (i : grid0.Coords) : Fin 3 → Nat :=
  let arg0 : BitVec 32 := BitVec.ofNat 32 (i 0).val
  let v1890 : Index := Scalar.indexCast arg0
  let c0_831 : Index := 0#32
  let c2304_832 : Index := 2304#32
  ![v1890.toNat, 0, 2304]
def k0_off20 (i : grid0.Coords) : Fin 3 → Nat :=
  let arg0 : BitVec 32 := BitVec.ofNat 32 (i 0).val
  let v1990 : Index := Scalar.indexCast arg0
  let c0_875 : Index := 0#32
  let c2432_876 : Index := 2432#32
  ![v1990.toNat, 0, 2432]
def k0_off21 (i : grid0.Coords) : Fin 3 → Nat :=
  let arg0 : BitVec 32 := BitVec.ofNat 32 (i 0).val
  let v2090 : Index := Scalar.indexCast arg0
  let c0_919 : Index := 0#32
  let c2560_920 : Index := 2560#32
  ![v2090.toNat, 0, 2560]
def k0_off22 (i : grid0.Coords) : Fin 3 → Nat :=
  let arg0 : BitVec 32 := BitVec.ofNat 32 (i 0).val
  let v2190 : Index := Scalar.indexCast arg0
  let c0_963 : Index := 0#32
  let c2688_964 : Index := 2688#32
  ![v2190.toNat, 0, 2688]
def k0_off23 (i : grid0.Coords) : Fin 3 → Nat :=
  let arg0 : BitVec 32 := BitVec.ofNat 32 (i 0).val
  let v2290 : Index := Scalar.indexCast arg0
  let c0_1007 : Index := 0#32
  let c2816_1008 : Index := 2816#32
  ![v2290.toNat, 0, 2816]
def k0_off24 (i : grid0.Coords) : Fin 3 → Nat :=
  let arg0 : BitVec 32 := BitVec.ofNat 32 (i 0).val
  let v2390 : Index := Scalar.indexCast arg0
  let c0_1051 : Index := 0#32
  let c2944_1052 : Index := 2944#32
  ![v2390.toNat, 0, 2944]
def k0_off25 (i : grid0.Coords) : Fin 3 → Nat :=
  let arg0 : BitVec 32 := BitVec.ofNat 32 (i 0).val
  let v2490 : Index := Scalar.indexCast arg0
  let c0_1095 : Index := 0#32
  let c3072_1096 : Index := 3072#32
  ![v2490.toNat, 0, 3072]
def k0_off26 (i : grid0.Coords) : Fin 3 → Nat :=
  let arg0 : BitVec 32 := BitVec.ofNat 32 (i 0).val
  let v2590 : Index := Scalar.indexCast arg0
  let c0_1139 : Index := 0#32
  let c3200_1140 : Index := 3200#32
  ![v2590.toNat, 0, 3200]
def k0_off27 (i : grid0.Coords) : Fin 3 → Nat :=
  let arg0 : BitVec 32 := BitVec.ofNat 32 (i 0).val
  let v2690 : Index := Scalar.indexCast arg0
  let c0_1183 : Index := 0#32
  let c3328_1184 : Index := 3328#32
  ![v2690.toNat, 0, 3328]
def k0_off28 (i : grid0.Coords) : Fin 3 → Nat :=
  let arg0 : BitVec 32 := BitVec.ofNat 32 (i 0).val
  let v2790 : Index := Scalar.indexCast arg0
  let c0_1227 : Index := 0#32
  let c3456_1228 : Index := 3456#32
  ![v2790.toNat, 0, 3456]
def k0_off29 (i : grid0.Coords) : Fin 3 → Nat :=
  let arg0 : BitVec 32 := BitVec.ofNat 32 (i 0).val
  let v2890 : Index := Scalar.indexCast arg0
  let c0_1271 : Index := 0#32
  let c3584_1272 : Index := 3584#32
  ![v2890.toNat, 0, 3584]
def k0_off30 (i : grid0.Coords) : Fin 3 → Nat :=
  let arg0 : BitVec 32 := BitVec.ofNat 32 (i 0).val
  let v2990 : Index := Scalar.indexCast arg0
  let c0_1315 : Index := 0#32
  let c3712_1316 : Index := 3712#32
  ![v2990.toNat, 0, 3712]
def k0_off31 (i : grid0.Coords) : Fin 3 → Nat :=
  let arg0 : BitVec 32 := BitVec.ofNat 32 (i 0).val
  let v3090 : Index := Scalar.indexCast arg0
  let c0_1359 : Index := 0#32
  let c3840_1360 : Index := 3840#32
  ![v3090.toNat, 0, 3840]
def k0_off32 (i : grid0.Coords) : Fin 3 → Nat :=
  let arg0 : BitVec 32 := BitVec.ofNat 32 (i 0).val
  let v3190 : Index := Scalar.indexCast arg0
  let c0_1403 : Index := 0#32
  let c3968_1404 : Index := 3968#32
  ![v3190.toNat, 0, 3968]
def k0_off33 (i : grid0.Coords) : Fin 3 → Nat :=
  let arg0 : BitVec 32 := BitVec.ofNat 32 (i 0).val
  let v3290 : Index := Scalar.indexCast arg0
  let c0_1447 : Index := 0#32
  let c4096_1448 : Index := 4096#32
  ![v3290.toNat, 0, 4096]
def k0_off34 (i : grid0.Coords) : Fin 3 → Nat :=
  let arg0 : BitVec 32 := BitVec.ofNat 32 (i 0).val
  let v3390 : Index := Scalar.indexCast arg0
  let c0_1491 : Index := 0#32
  let c4224_1492 : Index := 4224#32
  ![v3390.toNat, 0, 4224]
def k0_off35 (i : grid0.Coords) : Fin 3 → Nat :=
  let arg0 : BitVec 32 := BitVec.ofNat 32 (i 0).val
  let v3490 : Index := Scalar.indexCast arg0
  let c0_1535 : Index := 0#32
  let c4352_1536 : Index := 4352#32
  ![v3490.toNat, 0, 4352]
def k0_off36 (i : grid0.Coords) : Fin 3 → Nat :=
  let arg0 : BitVec 32 := BitVec.ofNat 32 (i 0).val
  let v3590 : Index := Scalar.indexCast arg0
  let c0_1579 : Index := 0#32
  let c4480_1580 : Index := 4480#32
  ![v3590.toNat, 0, 4480]
def k0_off37 (i : grid0.Coords) : Fin 3 → Nat :=
  let arg0 : BitVec 32 := BitVec.ofNat 32 (i 0).val
  let v3690 : Index := Scalar.indexCast arg0
  let c0_1623 : Index := 0#32
  let c4608_1624 : Index := 4608#32
  ![v3690.toNat, 0, 4608]
def k0_off38 (i : grid0.Coords) : Fin 3 → Nat :=
  let arg0 : BitVec 32 := BitVec.ofNat 32 (i 0).val
  let v3790 : Index := Scalar.indexCast arg0
  let c0_1667 : Index := 0#32
  let c4736_1668 : Index := 4736#32
  ![v3790.toNat, 0, 4736]
def k0_off39 (i : grid0.Coords) : Fin 3 → Nat :=
  let arg0 : BitVec 32 := BitVec.ofNat 32 (i 0).val
  let v3890 : Index := Scalar.indexCast arg0
  let c0_1711 : Index := 0#32
  let c4864_1712 : Index := 4864#32
  ![v3890.toNat, 0, 4864]
def k0_off40 (i : grid0.Coords) : Fin 3 → Nat :=
  let arg0 : BitVec 32 := BitVec.ofNat 32 (i 0).val
  let v3990 : Index := Scalar.indexCast arg0
  let c0_1755 : Index := 0#32
  let c4992_1756 : Index := 4992#32
  ![v3990.toNat, 0, 4992]
def k0_off41 (i : grid0.Coords) : Fin 3 → Nat :=
  let arg0 : BitVec 32 := BitVec.ofNat 32 (i 0).val
  let v4090 : Index := Scalar.indexCast arg0
  let c0_1799 : Index := 0#32
  let c5120_1800 : Index := 5120#32
  ![v4090.toNat, 0, 5120]
def k0_off42 (i : grid0.Coords) : Fin 3 → Nat :=
  let arg0 : BitVec 32 := BitVec.ofNat 32 (i 0).val
  let v4190 : Index := Scalar.indexCast arg0
  let c0_1843 : Index := 0#32
  let c5248_1844 : Index := 5248#32
  ![v4190.toNat, 0, 5248]
def k0_off43 (i : grid0.Coords) : Fin 3 → Nat :=
  let arg0 : BitVec 32 := BitVec.ofNat 32 (i 0).val
  let v4290 : Index := Scalar.indexCast arg0
  let c0_1887 : Index := 0#32
  let c5376_1888 : Index := 5376#32
  ![v4290.toNat, 0, 5376]
def k0_off44 (i : grid0.Coords) : Fin 3 → Nat :=
  let arg0 : BitVec 32 := BitVec.ofNat 32 (i 0).val
  let v4390 : Index := Scalar.indexCast arg0
  let c0_1931 : Index := 0#32
  let c5504_1932 : Index := 5504#32
  ![v4390.toNat, 0, 5504]
def k0_off45 (i : grid0.Coords) : Fin 3 → Nat :=
  let arg0 : BitVec 32 := BitVec.ofNat 32 (i 0).val
  let v4490 : Index := Scalar.indexCast arg0
  let c0_1975 : Index := 0#32
  let c5632_1976 : Index := 5632#32
  ![v4490.toNat, 0, 5632]
def k0_off46 (i : grid0.Coords) : Fin 3 → Nat :=
  let arg0 : BitVec 32 := BitVec.ofNat 32 (i 0).val
  let v4590 : Index := Scalar.indexCast arg0
  let c0_2019 : Index := 0#32
  let c5760_2020 : Index := 5760#32
  ![v4590.toNat, 0, 5760]
def k0_off47 (i : grid0.Coords) : Fin 3 → Nat :=
  let arg0 : BitVec 32 := BitVec.ofNat 32 (i 0).val
  let v4690 : Index := Scalar.indexCast arg0
  let c0_2063 : Index := 0#32
  let c5888_2064 : Index := 5888#32
  ![v4690.toNat, 0, 5888]
def k0_off48 (i : grid0.Coords) : Fin 3 → Nat :=
  let arg0 : BitVec 32 := BitVec.ofNat 32 (i 0).val
  let v4790 : Index := Scalar.indexCast arg0
  let c0_2107 : Index := 0#32
  let c6016_2108 : Index := 6016#32
  ![v4790.toNat, 0, 6016]
def k0_off49 (i : grid0.Coords) : Fin 3 → Nat :=
  let arg0 : BitVec 32 := BitVec.ofNat 32 (i 0).val
  let v4890 : Index := Scalar.indexCast arg0
  let c0_2151 : Index := 0#32
  let c6144_2152 : Index := 6144#32
  ![v4890.toNat, 0, 6144]
def k0_off50 (i : grid0.Coords) : Fin 3 → Nat :=
  let arg0 : BitVec 32 := BitVec.ofNat 32 (i 0).val
  let v4990 : Index := Scalar.indexCast arg0
  let c0_2195 : Index := 0#32
  let c6272_2196 : Index := 6272#32
  ![v4990.toNat, 0, 6272]
def k0_off51 (i : grid0.Coords) : Fin 3 → Nat :=
  let arg0 : BitVec 32 := BitVec.ofNat 32 (i 0).val
  let v5090 : Index := Scalar.indexCast arg0
  let c0_2239 : Index := 0#32
  let c6400_2240 : Index := 6400#32
  ![v5090.toNat, 0, 6400]
def k0_off52 (i : grid0.Coords) : Fin 3 → Nat :=
  let arg0 : BitVec 32 := BitVec.ofNat 32 (i 0).val
  let v5190 : Index := Scalar.indexCast arg0
  let c0_2283 : Index := 0#32
  let c6528_2284 : Index := 6528#32
  ![v5190.toNat, 0, 6528]
def k0_cond2 (i : grid0.Coords) : BitVec 1 :=
  let arg0 : BitVec 32 := BitVec.ofNat 32 (i 0).val
  let c151_i32 : BitVec 32 := 151#32
  let v5203 : BitVec 1 := Scalar.cmpi .eq arg0 c151_i32
  let v5204 : BitVec 32 := Scalar.extui v5203
  let c0_i32_2289 : BitVec 32 := 0#32
  let v5205 : BitVec 1 := Scalar.cmpi .ne v5204 c0_i32_2289
  v5205

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6656 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x6656 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x52 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6656x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6656x152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "gelu_k" => some ((Real.sqrt (2 * Real.pi⁻¹) : ℝ) : EReal)
  | "gelu_k_third" => some (((Real.sqrt (2 * Real.pi⁻¹)) * (1 / 3) : ℝ) : EReal)
  | "gelu_kc" => some (((Real.sqrt (2 * Real.pi⁻¹)) * (8943 / 200000) : ℝ) : EReal)
  | "third" => some ((1 / 3 : ℝ) : EReal)
  | _ => none
-- ==== ReferenceIdeal.lean ====
variable {F : FTy → Type} [FloatOps F] [Named F]
def κ : String → Option EReal := fun
  | "gelu_3c" => some ((26829 / 200000 : ℝ) : EReal)
  | "gelu_c" => some ((8943 / 200000 : ℝ) : EReal)
  | "gelu_k" => some ((Real.sqrt (2 * Real.pi⁻¹) : ℝ) : EReal)
  | _ => none
-- ==== Reference.lean ====
abbrev S19456x6656 : Shape := ⟨2, ![19456, 6656]⟩
abbrev S1x6656 : Shape := ⟨2, ![1, 6656]⟩
abbrev S19456x52 : Shape := ⟨2, ![19456, 52]⟩
abbrev S6656x19456 : Shape := ⟨2, ![6656, 19456]⟩
abbrev S6656x152 : Shape := ⟨2, ![6656, 152]⟩
abbrev S6656 : Shape := ⟨1, ![6656]⟩
abbrev S19456x52x128 : Shape := ⟨3, ![19456, 52, 128]⟩
abbrev S19456x52x1 : Shape := ⟨3, ![19456, 52, 1]⟩
abbrev S6656x152x128 : Shape := ⟨3, ![6656, 152, 128]⟩
abbrev S6656x152x1 : Shape := ⟨3, ![6656, 152, 1]⟩

abbrev nBuf : Space → Nat
  | .hbm => 7
  | .vmem => 7
  | .smem => 0
  | _ => 0

abbrev bufTy : (tb : Table) → Fin (tcTables nBuf tb) → BufTy
  | .hbm, ⟨0, _⟩ => ⟨S19456x6656, .bf16⟩
  | .hbm, ⟨1, _⟩ => ⟨S19456x6656, .bf16⟩
  | .hbm, ⟨2, _⟩ => ⟨S1x6656, .f32⟩
  | .hbm, ⟨3, _⟩ => ⟨S19456x6656, .fp8e5m2⟩
  | .hbm, ⟨4, _⟩ => ⟨S19456x52, .f32⟩
  | .hbm, ⟨5, _⟩ => ⟨S6656x19456, .fp8e5m2⟩
  | .hbm, ⟨6, _⟩ => ⟨S6656x152, .f32⟩
  | .local _ .vmem, ⟨0, _⟩ => ⟨S19456x6656, .bf16⟩
  | .local _ .vmem, ⟨1, _⟩ => ⟨S19456x6656, .bf16⟩
  | .local _ .vmem, ⟨2, _⟩ => ⟨S1x6656, .f32⟩
  | .local _ .vmem, ⟨3, _⟩ => ⟨S19456x6656, .fp8e5m2⟩
  | .local _ .vmem, ⟨4, _⟩ => ⟨S19456x52, .f32⟩
  | .local _ .vmem, ⟨5, _⟩ => ⟨S6656x19456, .fp8e5m2⟩
  | .local _ .vmem, ⟨6, _⟩ => ⟨S6656x152, .f32⟩
  | _, _ => ⟨S19456x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S19456x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19456x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S19456x6656 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S19456x52 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6656x19456 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6656x152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.Runs.lean ====
/- What the three runs of the low-precision kernel's body share: the launch up to the pipelined region, each window's
   block, and the body's two branch conditions in closed form. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 152 = 0 :=
  (fun t => by
    have ht : t.val < 152 := Nat.lt_of_lt_of_eq t.isLt N_0
    have e0 : (grid0.coords t 0).val = t.val / 1 % 152 := Pipeline.Grid.coords_val t 0 (by decide) rfl
    simp only [cond0_0, e0]
    word_cmp
   : ∀ t : Fin grid0.N, cond0_0 (grid0.coords t) ↔ t.val % 152 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 152 = 151 :=
  (fun t => by
    have ht : t.val < 152 := Nat.lt_of_lt_of_eq t.isLt N_0
    have e0 : (grid0.coords t 0).val = t.val / 1 % 152 := Pipeline.Grid.coords_val t 0 (by decide) rfl
    simp only [cond0_1, k0_cond2, e0]
    word_cmp
   : ∀ t : Fin grid0.N, cond0_1 (grid0.coords t) ↔ t.val % 152 = 151)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x6656 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x6656 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6656 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x6656 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x52 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6656x128 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6656x152 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S152x1x6656 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelFrame.RunA.lean ====
/- The body's run at the first point. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4968000 in
/-- The body's triple IN CASE A (`scf.if` 0 taken, `scf.if` 1 not taken: points 0): on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x6656 .bf16) (harg1 : arg1.IsWhole) (arg2 : Memref sig .tc .vmem S128x6656 .bf16) (harg2 : arg2.IsWhole) (arg3 : Memref sig .tc .vmem S1x6656 .f32) (harg3 : arg3.IsWhole) (arg4 : Memref sig .tc .vmem S128x6656 .fp8e5m2) (harg4 : arg4.IsWhole) (arg5 : Memref sig .tc .vmem S128x52 .f32) (harg5 : arg5.IsWhole) (arg6 : Memref sig .tc .vmem S6656x128 .fp8e5m2) (harg6 : arg6.IsWhole) (arg7 : Memref sig .tc .vmem S6656x152 .f32) (harg7 : arg7.IsWhole) (arg8 : Memref sig .tc .vmem S152x1x6656 .f32) (harg8 : arg8.IsWhole) (hc0 : cond0_0 i) (hc1 : ¬cond0_1 i)
    (x0 : Vec F S128x6656 .bf16) (x1 : Vec F S128x6656 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_gelu_bwd_cast i arg1 harg1 arg2 harg2 arg3 harg3 arg4 harg4 arg5 harg5 arg6 harg6 arg7 harg7 arg8 harg8) K := by
    intro E K
    simp only [cc0_gelu_bwd_cast_eq_skeleton]; unfold cc0_gelu_bwd_cast_skel
    simp only [k0_part132_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part133_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end Cert.Kernel.Hand

end
-- ==== Proof.KernelFrame.RunB.lean ====
/- The body's run at a point that is neither first nor last. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4960000 in
/-- The body's triple IN CASE B (`scf.if` 0 not taken, `scf.if` 1 not taken: points 1, 2, … 150: 150 of 152): on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x6656 .bf16) (harg1 : arg1.IsWhole) (arg2 : Memref sig .tc .vmem S128x6656 .bf16) (harg2 : arg2.IsWhole) (arg3 : Memref sig .tc .vmem S1x6656 .f32) (harg3 : arg3.IsWhole) (arg4 : Memref sig .tc .vmem S128x6656 .fp8e5m2) (harg4 : arg4.IsWhole) (arg5 : Memref sig .tc .vmem S128x52 .f32) (harg5 : arg5.IsWhole) (arg6 : Memref sig .tc .vmem S6656x128 .fp8e5m2) (harg6 : arg6.IsWhole) (arg7 : Memref sig .tc .vmem S6656x152 .f32) (harg7 : arg7.IsWhole) (arg8 : Memref sig .tc .vmem S152x1x6656 .f32) (harg8 : arg8.IsWhole) (hc0 : ¬cond0_0 i) (hc1 : ¬cond0_1 i)
    (x0 : Vec F S128x6656 .bf16) (x1 : Vec F S128x6656 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_gelu_bwd_cast i arg1 harg1 arg2 harg2 arg3 harg3 arg4 harg4 arg5 harg5 arg6 harg6 arg7 harg7 arg8 harg8) K := by
    intro E K
    simp only [cc0_gelu_bwd_cast_eq_skeleton]; unfold cc0_gelu_bwd_cast_skel
    simp only [k0_part132_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part133_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end Cert.Kernel.Hand

end
-- ==== Proof.KernelFrame.RunC.lean ====
/- The body's run at the last point. -/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4972000 in
/-- The body's triple IN CASE C (`scf.if` 0 not taken, `scf.if` 1 taken: points 151): on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S128x6656 .bf16) (harg1 : arg1.IsWhole) (arg2 : Memref sig .tc .vmem S128x6656 .bf16) (harg2 : arg2.IsWhole) (arg3 : Memref sig .tc .vmem S1x6656 .f32) (harg3 : arg3.IsWhole) (arg4 : Memref sig .tc .vmem S128x6656 .fp8e5m2) (harg4 : arg4.IsWhole) (arg5 : Memref sig .tc .vmem S128x52 .f32) (harg5 : arg5.IsWhole) (arg6 : Memref sig .tc .vmem S6656x128 .fp8e5m2) (harg6 : arg6.IsWhole) (arg7 : Memref sig .tc .vmem S6656x152 .f32) (harg7 : arg7.IsWhole) (arg8 : Memref sig .tc .vmem S152x1x6656 .f32) (harg8 : arg8.IsWhole) (hc0 : ¬cond0_0 i) (hc1 : cond0_1 i)
    (x0 : Vec F S128x6656 .bf16) (x1 : Vec F S128x6656 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_gelu_bwd_cast i arg1 harg1 arg2 harg2 arg3 harg3 arg4 harg4 arg5 harg5 arg6 harg6 arg7 harg7 arg8 harg8) K := by
    intro E K
    simp only [cc0_gelu_bwd_cast_eq_skeleton]; unfold cc0_gelu_bwd_cast_skel
    simp only [k0_part132_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part133_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

end Cert.Kernel.Hand

end
-- ==== Proof.KernelFrame.Frame.lean ====
/- The low-precision kernel runs to its end, leaves its arguments unchanged and every semaphore at zero. Nothing is
   said of what its outputs hold. -/
module

public import proofs.«01_k».proof.Proof.KernelFrame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 152 := lt_of_lt_of_eq t.isLt (show cfg0.N = 152 from N_0)
  by_cases h0 : t.val % 152 = 0
  · by_cases h1 : t.val % 152 = 151
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h1 : t.val % 152 = 151
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t)) Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      iintro ⟨H0, H1, H2, H3, H4, H5, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.Tile.lean ====
/- The kernel's body as a chain of tiles.

   The body works through the block's 6656 columns 128 at a time: 52 tiles, each the same statements at other
   offsets. `tile j` writes one of them down, with the arithmetic in named functions, and `body_eq` says the printed
   body is the prologue, the 52 tiles in order, and the epilogue. -/
module

public import proofs.«01_k».proof.Proof.Gen.KernelIdeal

@[expose] public section

noncomputable section

namespace Cert.KernelIdeal.Hand

open Idealize.ShloMosaic Idealize.SL.Sem Cert.KernelIdeal Cert.KernelIdeal.Gen

variable {F : FTy → Type} [FloatOps F] [Named F]

/-! ## The arithmetic of one tile -/

/-- The gradient through the gelu, of a tile `x` and an incoming gradient `g`, as the kernel computes it. -/
def dgelu (x g : Vec F S128x128 .bf16) : FVec F S128x128 .f32 :=
  have v4 : FVec F S128x128 .f32 := extf .f32 x bitsLt_bf16_f32
  have v6 : FVec F S128x128 .f32 := extf .f32 g bitsLt_bf16_f32
  have v9 : FVec F S128x128 .f32 := mulf (mulf (broadcast S128x128 (Named.named κ "gelu_kc" 0x3D122279#32)) v4) v4
  have v13 : FVec F S128x128 .f32 := tanh (mulf v4 (addf v9 (broadcast S128x128 (Named.named κ "gelu_k" 0x3F4C422A#32))))
  have v15 : FVec F S128x128 .f32 := addf v9 (broadcast S128x128 (Named.named κ "gelu_k_third" 0x3E882C1C#32))
  have v17 : FVec F S128x128 .f32 := addf (broadcast S128x128 (Scalar.ofBits .f32 0x3F800000#32)) v13
  have v19 : FVec F S128x128 .f32 := subf (broadcast S128x128 (Scalar.ofBits .f32 0x3F800000#32)) v13
  have v21 : FVec F S128x128 .f32 := mulf (mulf v19 v4) v15
  have v24 : FVec F S128x128 .f32 := mulf v17 (addf (broadcast S128x128 (Named.named κ "third" 0x3EAAAAAB#32)) v21)
  mulf v6 (mulf (broadcast S128x128 (Scalar.ofBits .f32 0x3FC00000#32)) v24)

/-- The bias gradient's new value over one tile: the value before plus the tile's column sums. -/
def dbNew (d : FVec F S128x128 .f32) (old : Vec F S1x128 .f32) : FVec F S1x128 .f32 :=
  addf (shapeCast S1x128 old shapeCasts_S1x128_S1x128)
    (shapeCast S1x128 (multiReduction .add [0] S128 d 0x00000000#32 reduces_S128x128_S128 (.inl rfl) rfl) shapeCasts_S128_S1x128)

/-- The power of two at or below a group's largest magnitude over the format's largest finite value. -/
def binade {s : Shape} (amax : FVec F s .f32) : FVec F s .f32 :=
  exp2 (floor (divf (log (mulf amax (broadcast s (Scalar.ofBits .f32 0x37924925#32))))
    (log (broadcast s (Scalar.ofBits .f32 0x40000000#32)))))

/-- Whether that power is zero or infinite. -/
def plain {s : Shape} (b : FVec F s .f32) : IVec s 1 :=
  ori (cmpf .oeq b (broadcast s (Scalar.ofBits .f32 0x00000000#32))) (cmpf .oeq b (broadcast s (Scalar.ofBits .f32 0x7F800000#32)))

/-- A group's scale. -/
def scale {s : Shape} (amax : FVec F s .f32) : FVec F s .f32 :=
  select (plain (binade amax)) (broadcast s (Scalar.ofBits .f32 0x3F800000#32))
    (mulf (broadcast s (Scalar.ofBits .f32 0x40000000#32)) (binade amax))

/-- What a group's values are multiplied by. -/
def invScale {s : Shape} (amax : FVec F s .f32) : FVec F s .f32 :=
  select (plain (binade amax)) (broadcast s (Scalar.ofBits .f32 0x3F800000#32))
    (divf (broadcast s (Scalar.ofBits .f32 0x3F000000#32)) (binade amax))

/-- Scaled values clipped to the format's range and cast to it. -/
def codes (q : FVec F S128x128 .f32) : FVec F S128x128 .fp8e5m2 :=
  truncf .fp8e5m2 (minimumf (broadcast S128x128 (Scalar.ofBits .f32 0x47600000#32))
    (maximumf (broadcast S128x128 (Scalar.ofBits .f32 0xC7600000#32)) q)) bitsLt_fp8e5m2_f32

/-- Each row's largest magnitude. -/
def rowMax (d : FVec F S128x128 .f32) : FVec F S128x1 .f32 :=
  shapeCast S128x1 (multiReduction .maximumf [1] S128 (absf d) 0xFF800000#32 reduces_S128x128_S128_2 (.inl rfl) rfl) shapeCasts_S128_S128x1

/-- Each column's largest magnitude. -/
def colMax (d : FVec F S128x128 .f32) : FVec F S1x128 .f32 :=
  shapeCast S1x128 (multiReduction .maximumf [0] S128 (absf d) 0xFF800000#32 reduces_S128x128_S128 (.inl rfl) rfl) shapeCasts_S128_S1x128

/-- The tile's codes scaled by row. -/
def rowCodes (d : FVec F S128x128 .f32) : FVec F S128x128 .fp8e5m2 :=
  codes (mulf d (broadcastTo S128x128 (invScale (rowMax d)) broadcasts_S128x1_S128x128))

/-- The tile's codes scaled by column, transposed. -/
def colCodes (d : FVec F S128x128 .f32) : FVec F S128x128 .fp8e5m2 :=
  codes (transpose S128x128 [1, 0] (mulf d (broadcastTo S128x128 (invScale (colMax d)) broadcasts_S1x128_S128x128))
    transposes_S128x128_p1_0_S128x128)

/-- The tile's column scales, as the scratch keeps them. -/
def colScale (d : FVec F S128x128 .f32) : FVec F S1x1x128 .f32 :=
  shapeCast S1x1x128 (scale (colMax d)) shapeCasts_S1x128_S1x1x128

/-! ## The accesses -/

/-- Tile `j`'s columns lie inside a block of 6656. -/
theorem inbCols (j : Fin 52) : ∀ a, (![0, 128 * j.val] : Fin 2 → Nat) a + S128x128.size a ≤ S128x6656.size a := by
  intro a; fin_cases a <;> simp [S128x128, S128x6656] <;> omega
theorem inbDb (j : Fin 52) : ∀ a, (![0, 128 * j.val] : Fin 2 → Nat) a + S1x128.size a ≤ S1x6656.size a := by
  intro a; fin_cases a <;> simp [S1x128, S1x6656] <;> omega
theorem inbRs (j : Fin 52) : ∀ a, (![0, j.val] : Fin 2 → Nat) a + S128x1.size a ≤ S128x52.size a := by
  intro a; fin_cases a <;> simp [S128x1, S128x52] <;> omega
theorem inbRows (j : Fin 52) : ∀ a, (![128 * j.val, 0] : Fin 2 → Nat) a + S128x128.size a ≤ S6656x128.size a := by
  intro a; fin_cases a <;> simp [S128x128, S6656x128] <;> omega

/-- Where point `i` keeps tile `j`'s column scales in the scratch. -/
def accOff (i : grid0.Coords) (j : Fin 52) : Fin 3 → Nat :=
  ![(Scalar.indexCast (BitVec.ofNat 32 (i 0).val)).toNat, 0, 128 * j.val]

theorem accOff_inb (i : grid0.Coords) (j : Fin 52) : ∀ a, accOff i j a + S1x1x128.size a ≤ S152x1x6656.size a := by
  intro a; have h := k0_off1_inb i 0
  fin_cases a
  · exact h
  · simp [accOff, S1x1x128, S152x1x6656]
  · simp [accOff, S1x1x128, S152x1x6656]; omega

theorem packedCols : ∀ j : Fin 52, (Rect.unit (s := S128x6656) ![0, 128 * j.val] S128x128.size (inbCols j)).PackedRows (EltTy.packing .fp8e5m2) := by
  decide
theorem packedRows : ∀ j : Fin 52, (Rect.unit (s := S6656x128) ![128 * j.val, 0] S128x128.size (inbRows j)).PackedRows (EltTy.packing .fp8e5m2) := by
  decide

/-! ## The program -/

section
variable (i : grid0.Coords) (arg1 : Memref sig .tc .vmem S128x6656 .bf16) (arg2 : Memref sig .tc .vmem S128x6656 .bf16)
  (arg3 : Memref sig .tc .vmem S1x6656 .f32) (arg4 : Memref sig .tc .vmem S128x6656 .fp8e5m2) (harg4 : arg4.IsWhole)
  (arg5 : Memref sig .tc .vmem S128x52 .f32) (arg6 : Memref sig .tc .vmem S6656x128 .fp8e5m2) (harg6 : arg6.IsWhole)
  (arg7 : Memref sig .tc .vmem S6656x152 .f32) (arg8 : Memref sig .tc .vmem S152x1x6656 .f32)

/-- Before the tiles (`k`, what is run next): at the first point the bias gradient is set to zero. -/
def prologue (k : Prog (TpuEff nD τ sig (Elt F) Λ₀ .tc) PUnit) : Prog (TpuEff nD τ sig (Elt F) Λ₀ .tc) PUnit :=
  if _h : Scalar.cmpi .ne (Scalar.extui (Scalar.cmpi .eq (BitVec.ofNat 32 (i 0).val) 0#32) : BitVec 32) 0#32 = 1#1 then do
    let _ : Vec F S1x6656 .f32 ← Prog.lift (.load arg3 (Rect.unit (s := S1x6656) ![0, 0] S1x6656.size inb_S1x6656_S1x6656_0_0).toLoadRect (View.loadsAt_vmem h_S1x6656))
    Prog.lift (.store arg3 (Rect.unit (s := S1x6656) ![0, 0] S1x6656.size inb_S1x6656_S1x6656_0_0) (broadcast S1x6656 (Scalar.ofBits .f32 0x00000000#32)) Finset.univ (View.stores_vmem_bits_univ h_S1x6656 rfl) (.inl rfl))
    k
  else k

/-- Tile `j`: read the inputs' columns, add to the bias gradient, and store the row scales, the row-scaled codes, the
    column scales and the column-scaled codes. The loads whose value is dropped stand where the printed body has them. -/
def tile (j : Fin 52) : Prog (TpuEff nD τ sig (Elt F) Λ₀ .tc) PUnit := do
  let x : Vec F S128x128 .bf16 ← Prog.lift (.load arg1 (Rect.unit (s := S128x6656) ![0, 128 * j.val] S128x128.size (inbCols j)).toLoadRect (View.loadsAt_vmem h_S128x128))
  let g : Vec F S128x128 .bf16 ← Prog.lift (.load arg2 (Rect.unit (s := S128x6656) ![0, 128 * j.val] S128x128.size (inbCols j)).toLoadRect (View.loadsAt_vmem h_S128x128))
  let old : Vec F S1x128 .f32 ← Prog.lift (.load arg3 (Rect.unit (s := S1x6656) ![0, 128 * j.val] S1x128.size (inbDb j)).toLoadRect (View.loadsAt_vmem h_S1x128))
  let _ : Vec F S1x128 .f32 ← Prog.lift (.load arg3 (Rect.unit (s := S1x6656) ![0, 128 * j.val] S1x128.size (inbDb j)).toLoadRect (View.loadsAt_vmem h_S1x128))
  Prog.lift (.store arg3 (Rect.unit (s := S1x6656) ![0, 128 * j.val] S1x128.size (inbDb j)) (dbNew (dgelu x g) old) Finset.univ (View.stores_vmem_bits_univ h_S1x128 rfl) (.inl rfl))
  let _ : Vec F S128x1 .f32 ← Prog.lift (.load arg5 (Rect.unit (s := S128x52) ![0, j.val] S128x1.size (inbRs j)).toLoadRect (View.loadsAt_vmem h_S128x1))
  Prog.lift (.store arg5 (Rect.unit (s := S128x52) ![0, j.val] S128x1.size (inbRs j)) (scale (rowMax (dgelu x g))) Finset.univ (View.stores_vmem_bits_univ h_S128x1 rfl) (.inl rfl))
  let _ : Vec F S128x128 .fp8e5m2 ← Prog.lift (.load arg4 (Rect.unit (s := S128x6656) ![0, 128 * j.val] S128x128.size (inbCols j)).toLoadRect (View.loadsAt_vmem h_S128x128))
  Prog.lift (.store arg4 (Rect.unit (s := S128x6656) ![0, 128 * j.val] S128x128.size (inbCols j)) (rowCodes (dgelu x g)) Finset.univ (View.stores_vmem h_S128x128 (harg4.storeExact_slice rfl _ (packedCols j)) (fun _ => rfl)) (.inl rfl))
  let _ : Vec F S1x1x128 .f32 ← Prog.lift (.load arg8 (Rect.unit (s := S152x1x6656) (accOff i j) S1x1x128.size (accOff_inb i j)).toLoadRect (View.loadsAt_vmem h_S1x1x128))
  Prog.lift (.store arg8 (Rect.unit (s := S152x1x6656) (accOff i j) S1x1x128.size (accOff_inb i j)) (colScale (dgelu x g)) Finset.univ (View.stores_vmem_bits_univ h_S1x1x128 rfl) (.inl rfl))
  let _ : Vec F S128x128 .fp8e5m2 ← Prog.lift (.load arg6 (Rect.unit (s := S6656x128) ![128 * j.val, 0] S128x128.size (inbRows j)).toLoadRect (View.loadsAt_vmem h_S128x128))
  Prog.lift (.store arg6 (Rect.unit (s := S6656x128) ![128 * j.val, 0] S128x128.size (inbRows j)) (colCodes (dgelu x g)) Finset.univ (View.stores_vmem h_S128x128 (harg6.storeExact_slice rfl _ (packedRows j)) (fun _ => rfl)) (.inl rfl))

/-- After the tiles: at the last point the scratch is transposed into the column scales. -/
def epilogue : Prog (TpuEff nD τ sig (Elt F) Λ₀ .tc) PUnit := do
  if _h : k0_cond2 i = 1#1 then do
    let acc : Vec F S152x1x6656 .f32 ← Prog.lift (.load arg8 (Rect.unit (s := S152x1x6656) ![0, 0, 0] S152x1x6656.size inb_S152x1x6656_S152x1x6656_0_0_0).toLoadRect (View.loadsAt_vmem h_S152x1x6656))
    let _ : Vec F S6656x152 .f32 ← Prog.lift (.load arg7 (Rect.unit (s := S6656x152) ![0, 0] S6656x152.size inb_S6656x152_S6656x152_0_0).toLoadRect (View.loadsAt_vmem h_S6656x152))
    Prog.lift (.store arg7 (Rect.unit (s := S6656x152) ![0, 0] S6656x152.size inb_S6656x152_S6656x152_0_0) (transpose S6656x152 [1, 0] (shapeCast S152x6656 acc shapeCasts_S152x1x6656_S152x6656) transposes_S152x6656_p1_0_S6656x152) Finset.univ (View.stores_vmem_bits_univ h_S6656x152 rfl) (.inl rfl))
    pure ⟨⟩
  else pure ⟨⟩

/-- The tiles in order. -/
def order : List (Fin 52) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51]

/-- The tiles of a list one after another, and then the epilogue. -/
def run (js : List (Fin 52)) : Prog (TpuEff nD τ sig (Elt F) Λ₀ .tc) PUnit :=
  js.foldr (fun j k => tile i arg1 arg2 arg3 arg4 harg4 arg5 arg6 harg6 arg8 j >>= fun _ => k) (epilogue i arg7 arg8)

end

end Cert.KernelIdeal.Hand

end
-- ==== Proof.Body.lean ====
/- The printed body is the chain of tiles. -/
module

public import proofs.«01_k».proof.Proof.Tile

@[expose] public section

set_option maxRecDepth 100000
set_option maxHeartbeats 0

noncomputable section

namespace Cert.KernelIdeal.Hand

open Idealize.ShloMosaic Idealize.SL.Sem Cert.KernelIdeal Cert.KernelIdeal.Gen

variable {F : FTy → Type} [FloatOps F] [Named F]

/-- The printed body is the prologue, the 52 tiles in order, and the epilogue. -/
theorem body_eq (i : grid0.Coords) (arg1 : Memref sig .tc .vmem S128x6656 .bf16) (harg1 : arg1.IsWhole) (arg2 : Memref sig .tc .vmem S128x6656 .bf16) (harg2 : arg2.IsWhole) (arg3 : Memref sig .tc .vmem S1x6656 .f32) (harg3 : arg3.IsWhole) (arg4 : Memref sig .tc .vmem S128x6656 .fp8e5m2) (harg4 : arg4.IsWhole) (arg5 : Memref sig .tc .vmem S128x52 .f32) (harg5 : arg5.IsWhole) (arg6 : Memref sig .tc .vmem S6656x128 .fp8e5m2) (harg6 : arg6.IsWhole) (arg7 : Memref sig .tc .vmem S6656x152 .f32) (harg7 : arg7.IsWhole) (arg8 : Memref sig .tc .vmem S152x1x6656 .f32) (harg8 : arg8.IsWhole) :
    cc0_gelu_bwd_cast (F := F) i arg1 harg1 arg2 harg2 arg3 harg3 arg4 harg4 arg5 harg5 arg6 harg6 arg7 harg7 arg8 harg8
      = prologue i arg3 (run i arg1 arg2 arg3 arg4 harg4 arg5 arg6 harg6 arg7 arg8 order) := by
  by_cases h : Scalar.cmpi .ne (Scalar.extui (Scalar.cmpi .eq (BitVec.ofNat 32 (i 0).val) 0#32) : BitVec 32) 0#32 = 1#1
  · unfold prologue cc0_gelu_bwd_cast k0_part132 k0_part1
    simp only [dif_pos h]
    rfl
  · unfold prologue cc0_gelu_bwd_cast k0_part132 k0_part1
    simp only [dif_neg h]
    rfl

end Cert.KernelIdeal.Hand

end
-- ==== Proof.TileRun.lean ====
/- What one tile does to the buffers it works on, whatever the tile: each store puts a payload over one window. -/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal Cert.KernelIdeal.Gen

variable {F : FTy → Type} [FloatOps F] [Named F]

local notation "𝕄" => MT nD τ sig Unit (Elt F) ℕ (UR sig nD τ) ℕ

/-- What the buffers hold that the tiles write: the bias gradient, the row-scaled codes, the row scales, the
    column-scaled codes, and the scratch of column scales. -/
structure Held (F : FTy → Type) where
  db : Vec F S1x6656 .f32
  rc : Vec F S128x6656 .fp8e5m2
  rs : Vec F S128x52 .f32
  cc : Vec F S6656x128 .fp8e5m2
  acc : Vec F S152x1x6656 .f32

/-- Tile `j` of the gelu's gradient over a block. -/
def dTile (x g : Vec F S128x6656 .bf16) (j : Fin 52) : FVec F S128x128 .f32 :=
  dgelu (window x ![0, 128 * j.val] S128x128.size (inbCols j)) (window g ![0, 128 * j.val] S128x128.size (inbCols j))

/-- The buffers after tile `j` at point `i`. -/
def step (i : grid0.Coords) (x g : Vec F S128x6656 .bf16) (s : Held F) (j : Fin 52) : Held F where
  db := put s.db ![0, 128 * j.val] S1x128.size (dbNew (dTile x g j) (window s.db ![0, 128 * j.val] S1x128.size (inbDb j)))
  rc := put s.rc ![0, 128 * j.val] S128x128.size (rowCodes (dTile x g j))
  rs := put s.rs ![0, j.val] S128x1.size (scale (rowMax (dTile x g j)))
  cc := put s.cc ![128 * j.val, 0] S128x128.size (colCodes (dTile x g j))
  acc := put s.acc (accOff i j) S1x1x128.size (colScale (dTile x g j))

section
variable (c : Dev nD) (i : grid0.Coords) (arg1 : Memref sig .tc .vmem S128x6656 .bf16) (arg2 : Memref sig .tc .vmem S128x6656 .bf16)
  (arg3 : Memref sig .tc .vmem S1x6656 .f32) (arg4 : Memref sig .tc .vmem S128x6656 .fp8e5m2) (harg4 : arg4.IsWhole)
  (arg5 : Memref sig .tc .vmem S128x52 .f32) (arg6 : Memref sig .tc .vmem S6656x128 .fp8e5m2) (harg6 : arg6.IsWhole)
  (arg7 : Memref sig .tc .vmem S6656x152 .f32) (arg8 : Memref sig .tc .vmem S152x1x6656 .f32)

/-- The buffers owned: the two inputs at `x` and `g`, the others at `s`. -/
def ownsAll (x g : Vec F S128x6656 .bf16) (s : Held F) : sProp 𝕄 :=
  iprop(owns (c : Thread nD τ) arg1 fullShare x ∗ owns (c : Thread nD τ) arg2 fullShare g
    ∗ owns (c : Thread nD τ) arg3 fullShare s.db ∗ owns (c : Thread nD τ) arg4 fullShare s.rc
    ∗ owns (c : Thread nD τ) arg5 fullShare s.rs ∗ owns (c : Thread nD τ) arg6 fullShare s.cc
    ∗ owns (c : Thread nD τ) arg8 fullShare s.acc)

/-- One tile. -/
theorem tile_run (x g : Vec F S128x6656 .bf16) (s : Held F) (j : Fin 52) (E : Set ℕ) (K : PUnit → sProp 𝕄) :
    iprop(ownsAll c arg1 arg2 arg3 arg4 arg5 arg6 arg8 x g s ∗ (ownsAll c arg1 arg2 arg3 arg4 arg5 arg6 arg8 x g (step i x g s j) -∗ K ⟨⟩))
      ⊢ wp frame (wpE (defs₀ (F := F)) Variants.none c none) E (tile i arg1 arg2 arg3 arg4 harg4 arg5 arg6 harg6 arg8 j) K := by
  unfold tile ownsAll
  simp only [owns_eq_rep]
  iintro ⟨⟨H1, H2, H3, H4, H5, H6, H8⟩, Hk⟩
  sl_exec
  sl_step
  rw [View.readAt_rep_unit arg1.view x _ rfl (inbCols j), View.readAt_rep_unit arg2.view g _ rfl (inbCols j),
    View.readAt_rep_unit arg3.view s.db _ rfl (inbDb j)]
  iapply Hk
  unfold step dTile
  isplitl [H1]; · iexact H1
  isplitl [H2]; · iexact H2
  isplitl [H3]; · iapply (pointsTo_rep_of_read _ _ _ _ _ (View.read_writes_rep_unit arg3.view s.db _ _ rfl)) $$ H3
  isplitl [H4]; · iapply (pointsTo_rep_of_read _ _ _ _ _ (View.read_writes_rep_unit arg4.view s.rc _ _ rfl)) $$ H4
  isplitl [H5]; · iapply (pointsTo_rep_of_read _ _ _ _ _ (View.read_writes_rep_unit arg5.view s.rs _ _ rfl)) $$ H5
  isplitl [H6]; · iapply (pointsTo_rep_of_read _ _ _ _ _ (View.read_writes_rep_unit arg6.view s.cc _ _ rfl)) $$ H6
  iapply (pointsTo_rep_of_read _ _ _ _ _ (View.read_writes_rep_unit arg8.view s.acc _ _ rfl)) $$ H8

/-- The scratch of column scales, transposed. -/
def turned (acc : Vec F S152x1x6656 .f32) : Vec F S6656x152 .f32 :=
  transpose S6656x152 [1, 0] (shapeCast S152x6656 acc shapeCasts_S152x1x6656_S152x6656) transposes_S152x6656_p1_0_S6656x152

/-- What the epilogue leaves in the column scales' buffer, from the scratch and what it held. -/
def turn (i : grid0.Coords) (acc : Vec F S152x1x6656 .f32) (z : Vec F S6656x152 .f32) : Vec F S6656x152 .f32 :=
  if k0_cond2 i = 1#1 then turned acc else z

/-- The epilogue. -/
theorem epilogue_run (x g : Vec F S128x6656 .bf16) (s : Held F) (z : Vec F S6656x152 .f32) (E : Set ℕ) (K : PUnit → sProp 𝕄) :
    iprop(ownsAll c arg1 arg2 arg3 arg4 arg5 arg6 arg8 x g s ∗ owns (c : Thread nD τ) arg7 fullShare z
        ∗ (iprop(ownsAll c arg1 arg2 arg3 arg4 arg5 arg6 arg8 x g s ∗ owns (c : Thread nD τ) arg7 fullShare (turn i s.acc z)) -∗ K ⟨⟩))
      ⊢ wp frame (wpE (defs₀ (F := F)) Variants.none c none) E (epilogue i arg7 arg8) K := by
  unfold epilogue ownsAll turn
  simp only [owns_eq_rep]
  by_cases h : k0_cond2 i = 1#1
  · rw [dif_pos h, if_pos h]
    iintro ⟨⟨H1, H2, H3, H4, H5, H6, H8⟩, H7, Hk⟩
    sl_exec
    sl_step
    iapply Hk
    isplitr [H7]
    · isplitl [H1]; · iexact H1
      isplitl [H2]; · iexact H2
      isplitl [H3]; · iexact H3
      isplitl [H4]; · iexact H4
      isplitl [H5]; · iexact H5
      isplitl [H6]; · iexact H6
      iexact H8
    iapply (pointsTo_rep_of_read _ _ _ _ _ ((View.read_writes_full arg7.view _ _ _ _).trans (congrArg turned (View.readAt_rep_full arg8.view s.acc _)))) $$ H7
  · rw [dif_neg h, if_neg h]
    iintro ⟨⟨H1, H2, H3, H4, H5, H6, H8⟩, H7, Hk⟩
    sl_step
    iapply Hk
    isplitr [H7]
    · isplitl [H1]; · iexact H1
      isplitl [H2]; · iexact H2
      isplitl [H3]; · iexact H3
      isplitl [H4]; · iexact H4
      isplitl [H5]; · iexact H5
      isplitl [H6]; · iexact H6
      iexact H8
    iexact H7

/-- The tiles of a list and then the epilogue. -/
theorem run_run (x g : Vec F S128x6656 .bf16) (z : Vec F S6656x152 .f32) (E : Set ℕ) (K : PUnit → sProp 𝕄) : ∀ (js : List (Fin 52)) (s : Held F),
    iprop(ownsAll c arg1 arg2 arg3 arg4 arg5 arg6 arg8 x g s ∗ owns (c : Thread nD τ) arg7 fullShare z
        ∗ (iprop(ownsAll c arg1 arg2 arg3 arg4 arg5 arg6 arg8 x g (js.foldl (step i x g) s) ∗ owns (c : Thread nD τ) arg7 fullShare (turn i (js.foldl (step i x g) s).acc z)) -∗ K ⟨⟩))
      ⊢ wp frame (wpE (defs₀ (F := F)) Variants.none c none) E (run i arg1 arg2 arg3 arg4 harg4 arg5 arg6 harg6 arg7 arg8 js) K
  | [], s => epilogue_run c i arg1 arg2 arg3 arg4 arg5 arg6 arg7 arg8 x g s z E K
  | j :: js, s => by
    show _ ⊢ wp frame (wpE (defs₀ (F := F)) Variants.none c none) E
      (tile i arg1 arg2 arg3 arg4 harg4 arg5 arg6 harg6 arg8 j >>= fun _ => run i arg1 arg2 arg3 arg4 harg4 arg5 arg6 harg6 arg7 arg8 js) K
    rw [wp_bind]
    iintro ⟨H, H7, Hk⟩
    iapply (tile_run c i arg1 arg2 arg3 arg4 harg4 arg5 arg6 harg6 arg8 x g s j E _)
    isplitl [H]; · iexact H
    iintro H
    iapply (run_run x g z E K js (step i x g s j))
    isplitl [H]; · iexact H
    isplitl [H7]; · iexact H7
    iexact Hk

/-- The state the tiles start from: at the first point the bias gradient is zero. -/
def start (i : grid0.Coords) (s : Held F) : Held F :=
  if Scalar.cmpi .ne (Scalar.extui (Scalar.cmpi .eq (BitVec.ofNat 32 (i 0).val) 0#32) : BitVec 32) 0#32 = 1#1
  then { s with db := broadcast S1x6656 (Scalar.ofBits .f32 0x00000000#32) } else s

/-- The state after a point. -/
def finish (i : grid0.Coords) (x g : Vec F S128x6656 .bf16) (s : Held F) : Held F := order.foldl (step i x g) (start i s)

/-- The prologue, before any program `k`. -/
theorem prologue_run (x g : Vec F S128x6656 .bf16) (s : Held F) (E : Set ℕ) (K : PUnit → sProp 𝕄)
    (k : Prog (TpuEff nD τ sig (Elt F) Λ₀ .tc) PUnit) :
    iprop(ownsAll c arg1 arg2 arg3 arg4 arg5 arg6 arg8 x g s ∗ (ownsAll c arg1 arg2 arg3 arg4 arg5 arg6 arg8 x g (start i s)
        -∗ wp frame (wpE (defs₀ (F := F)) Variants.none c none) E k K))
      ⊢ wp frame (wpE (defs₀ (F := F)) Variants.none c none) E (prologue i arg3 k) K := by
  unfold prologue start
  by_cases h : Scalar.cmpi .ne (Scalar.extui (Scalar.cmpi .eq (BitVec.ofNat 32 (i 0).val) 0#32) : BitVec 32) 0#32 = 1#1
  · rw [dif_pos h, if_pos h]
    unfold ownsAll
    simp only [owns_eq_rep]
    iintro ⟨⟨H1, H2, H3, H4, H5, H6, H8⟩, Hk⟩
    sl_exec
    iapply Hk
    isplitl [H1]; · iexact H1
    isplitl [H2]; · iexact H2
    isplitl [H3]; · iapply (pointsTo_rep_of_read _ _ _ _ _ (View.read_writes_full arg3.view _ _ _ _)) $$ H3
    isplitl [H4]; · iexact H4
    isplitl [H5]; · iexact H5
    isplitl [H6]; · iexact H6
    iexact H8
  · rw [dif_neg h, if_neg h]
    iintro ⟨H, Hk⟩
    iapply Hk
    iexact H

/-- The whole body. -/
theorem body_run (harg1 : arg1.IsWhole) (harg2 : arg2.IsWhole) (harg3 : arg3.IsWhole) (harg5 : arg5.IsWhole) (harg7 : arg7.IsWhole) (harg8 : arg8.IsWhole)
    (x g : Vec F S128x6656 .bf16) (s : Held F) (z : Vec F S6656x152 .f32) (E : Set ℕ) (K : PUnit → sProp 𝕄) :
    iprop(ownsAll c arg1 arg2 arg3 arg4 arg5 arg6 arg8 x g s ∗ owns (c : Thread nD τ) arg7 fullShare z
        ∗ (iprop(ownsAll c arg1 arg2 arg3 arg4 arg5 arg6 arg8 x g (finish i x g s) ∗ owns (c : Thread nD τ) arg7 fullShare (turn i (finish i x g s).acc z)) -∗ K ⟨⟩))
      ⊢ wp frame (wpE (defs₀ (F := F)) Variants.none c none) E
        (cc0_gelu_bwd_cast i arg1 harg1 arg2 harg2 arg3 harg3 arg4 harg4 arg5 harg5 arg6 harg6 arg7 harg7 arg8 harg8) K := by
  rw [body_eq]
  unfold finish
  iintro ⟨H, H7, Hk⟩
  iapply (prologue_run c i arg1 arg2 arg3 arg4 arg5 arg6 arg8 x g s E K _)
  isplitl [H]; · iexact H
  iintro H
  iapply (run_run c i arg1 arg2 arg3 arg4 harg4 arg5 arg6 harg6 arg7 arg8 x g z E K order _)
  isplitl [H]; · iexact H
  isplitl [H7]; · iexact H7
  iexact Hk

end

end Cert.KernelIdeal.Hand

end
-- ==== Proof.Block.lean ====
/- What the buffers hold after one point, element by element. The 52 tiles write disjoint windows, so each element is
   the payload of the one tile whose window holds it. -/
module

public import proofs.«01_k».proof.Proof.TileRun
public import Idealize.ShloMosaic.Lib.ValueIdxCore

@[expose] public section

noncomputable section

namespace Cert.KernelIdeal.Hand

open Idealize.ShloMosaic Idealize.ShloMosaic.VecWindow
open Cert.KernelIdeal Cert.KernelIdeal.Gen ValueIdx

section Fold
variable {s : Shape} {α ι : Type} (off : ι → Fin s.rank → ℕ) (size : Fin s.rank → ℕ) (inb : ∀ j a, off j a + size a ≤ s.size a)
  (w : ι → (((a : Fin s.rank) → Fin (size a)) → α) → ((a : Fin s.rank) → Fin (size a)) → α)

/-- Payloads put one after another over disjoint windows, each made from what its own window held: at the end every
    window put holds its payload, made from what it held at the start, and a window apart from those holds what it held. -/
theorem foldl_put (hd : ∀ j k, j ≠ k → ∃ a, off j a + size a ≤ off k a ∨ off k a + size a ≤ off j a) :
    ∀ (js : List ι), js.Nodup → ∀ x : s.Idx → α,
      (∀ j ∈ js, window (js.foldl (fun x j => put x (off j) size (w j (window x (off j) size (inb j)))) x) (off j) size (inb j)
        = w j (window x (off j) size (inb j)))
      ∧ ∀ k, k ∉ js → window (js.foldl (fun x j => put x (off j) size (w j (window x (off j) size (inb j)))) x) (off k) size (inb k)
        = window x (off k) size (inb k)
  | [], _, x => ⟨fun j h => absurd h List.not_mem_nil, fun _ _ => rfl⟩
  | j :: js, hn, x => by
    obtain ⟨hj, hn⟩ := List.nodup_cons.mp hn
    obtain ⟨h1, h2⟩ := foldl_put hd js hn (put x (off j) size (w j (window x (off j) size (inb j))))
    have apart : ∀ k, k ≠ j → window (put x (off j) size (w j (window x (off j) size (inb j)))) (off k) size (inb k) = window x (off k) size (inb k) := by
      intro k hk
      obtain ⟨a, ha⟩ := hd k j hk
      exact window_put_of_disjoint _ _ _ _ _ _ _ a ha
    refine ⟨fun k hk => ?_, fun k hk => ?_⟩
    · rcases List.mem_cons.mp hk with rfl | hk
      · exact (h2 k hj).trans (window_put_same _ _ _ _ _)
      · have hkj : k ≠ j := fun e => hj (e ▸ hk)
        exact (h1 k hk).trans (congrArg (w k) (apart k hkj))
    · have hkj : k ≠ j := fun e => hk (e ▸ List.mem_cons_self)
      have hk : k ∉ js := fun h => hk (List.mem_cons_of_mem _ h)
      exact (h2 k hk).trans (apart k hkj)

/-- An element outside every window put is what it was. -/
theorem foldl_put_apart (y : s.Idx) : ∀ (js : List ι) (x : s.Idx → α),
    (∀ j, ∃ a, (y a).val < off j a ∨ off j a + size a ≤ (y a).val) →
      js.foldl (fun x j => put x (off j) size (w j (window x (off j) size (inb j)))) x y = x y
  | [], _, _ => rfl
  | j :: js, x, h => by
    rw [List.foldl_cons, foldl_put_apart y js _ h]
    unfold put
    rw [dif_neg]
    intro hall
    obtain ⟨a, ha⟩ := h j
    have := hall a
    omega

/-- An element of a vector is an element of a window that holds it. -/
theorem eq_window (f : s.Idx → α) {off : Fin s.rank → ℕ} {size : Fin s.rank → ℕ} (inb : ∀ a, off a + size a ≤ s.size a) (y : s.Idx)
    (z : (a : Fin s.rank) → Fin (size a)) (h : ∀ a, (y a).val = off a + (z a).val) : f y = window f off size inb z :=
  congrArg f (funext fun a => Fin.ext (by
    show (y a).val = off a + 1 * (z a).val
    have := h a; omega))

end Fold

/-- One field of a state that each step changes from that field alone. -/
theorem foldl_field {σ β ι : Type} (p : σ → β) (f : σ → ι → σ) (g : β → ι → β) (h : ∀ s j, p (f s j) = g (p s) j) :
    ∀ (js : List ι) (s : σ), p (js.foldl f s) = js.foldl g (p s)
  | [], _ => rfl
  | j :: js, s => (foldl_field p f g h js (f s j)).trans (congrArg (js.foldl g) (h s j))

variable {F : FTy → Type} [FloatOps F] [Named F]

theorem order_nodup : order.Nodup := by decide
theorem mem_order : ∀ j : Fin 52, j ∈ order := by decide

/-- The tile that holds column `q` of a block, and the column within it. -/
def tileOf (q : Fin 6656) : Fin 52 := ⟨q.val / 128, by omega⟩
def laneOf (q : Fin 6656) : Fin 128 := ⟨q.val % 128, by omega⟩

theorem row_word (i : grid0.Coords) : (Scalar.indexCast (BitVec.ofNat 32 (i 0).val)).toNat = (i 0).val := by
  have h : (i 0).val < 152 := (i 0).isLt
  simp [Scalar.indexCast]
  omega

variable (i : grid0.Coords) (x g : Vec F S128x6656 .bf16) (s : Held F)

theorem rc_apply (y : S128x6656.Idx) : (finish i x g s).rc y = rowCodes (dTile x g (tileOf (y 1))) (ix2 (y 0) (laneOf (y 1))) := by
  have e : (finish i x g s).rc = order.foldl (fun (rc : Vec F S128x6656 .fp8e5m2) j => put (s := S128x6656) rc ![0, 128 * j.val] S128x128.size (rowCodes (dTile x g j))) (start i s).rc :=
    foldl_field (fun s : Held F => s.rc) (step i x g) _ (fun _ _ => rfl) order (start i s)
  have h := (foldl_put (s := S128x6656) (fun j : Fin 52 => ![0, 128 * j.val]) S128x128.size inbCols (fun j _ => rowCodes (dTile x g j))
    (fun j k hjk => ⟨1, by have : j.val ≠ k.val := fun e => hjk (Fin.ext e); simp [S128x128]; omega⟩) order order_nodup (start i s).rc).1 (tileOf (y 1)) (mem_order _)
  exact (congrFun e y).trans ((eq_window (s := S128x6656) (size := S128x128.size) _ (inbCols (tileOf (y 1))) y (ix2 (y 0) (laneOf (y 1))) (by intro a; fin_cases a <;> simp [tileOf, laneOf] <;> omega)).trans (congrFun h _))

theorem rs_apply (y : S128x52.Idx) : (finish i x g s).rs y = scale (rowMax (dTile x g (y 1))) (ix2 (y 0) (0 : Fin 1)) := by
  have e : (finish i x g s).rs = order.foldl (fun (rs : Vec F S128x52 .f32) j => put (s := S128x52) rs ![0, j.val] S128x1.size (scale (rowMax (dTile x g j)))) (start i s).rs :=
    foldl_field (fun s : Held F => s.rs) (step i x g) _ (fun _ _ => rfl) order (start i s)
  have h := (foldl_put (s := S128x52) (fun j : Fin 52 => ![0, j.val]) S128x1.size inbRs (fun j _ => scale (rowMax (dTile x g j)))
    (fun j k hjk => ⟨1, by have : j.val ≠ k.val := fun e => hjk (Fin.ext e); simp [S128x1]; omega⟩) order order_nodup (start i s).rs).1 (y 1) (mem_order _)
  exact (congrFun e y).trans ((eq_window (s := S128x52) (size := S128x1.size) _ (inbRs (y 1)) y (ix2 (y 0) (0 : Fin 1)) (by intro a; fin_cases a <;> simp)).trans (congrFun h _))

theorem cc_apply (y : S6656x128.Idx) : (finish i x g s).cc y = colCodes (dTile x g (tileOf (y 0))) (ix2 (laneOf (y 0)) (y 1)) := by
  have e : (finish i x g s).cc = order.foldl (fun (cc : Vec F S6656x128 .fp8e5m2) j => put (s := S6656x128) cc ![128 * j.val, 0] S128x128.size (colCodes (dTile x g j))) (start i s).cc :=
    foldl_field (fun s : Held F => s.cc) (step i x g) _ (fun _ _ => rfl) order (start i s)
  have h := (foldl_put (s := S6656x128) (fun j : Fin 52 => ![128 * j.val, 0]) S128x128.size inbRows (fun j _ => colCodes (dTile x g j))
    (fun j k hjk => ⟨0, by have : j.val ≠ k.val := fun e => hjk (Fin.ext e); simp [S128x128]; omega⟩) order order_nodup (start i s).cc).1 (tileOf (y 0)) (mem_order _)
  exact (congrFun e y).trans ((eq_window (s := S6656x128) (size := S128x128.size) _ (inbRows (tileOf (y 0))) y (ix2 (laneOf (y 0)) (y 1)) (by intro a; fin_cases a <;> simp [tileOf, laneOf] <;> omega)).trans (congrFun h _))

theorem db_apply (y : S1x6656.Idx) : (finish i x g s).db y
    = dbNew (dTile x g (tileOf (y 1))) (window (start i s).db ![0, 128 * (tileOf (y 1)).val] S1x128.size (inbDb (tileOf (y 1)))) (ix2 (y 0) (laneOf (y 1))) := by
  have e : (finish i x g s).db = order.foldl (fun (db : Vec F S1x6656 .f32) j => put (s := S1x6656) db ![0, 128 * j.val] S1x128.size
      (dbNew (dTile x g j) (window (s := S1x6656) db ![0, 128 * j.val] S1x128.size (inbDb j)))) (start i s).db :=
    foldl_field (fun s : Held F => s.db) (step i x g) _ (fun _ _ => rfl) order (start i s)
  have h := (foldl_put (s := S1x6656) (fun j : Fin 52 => ![0, 128 * j.val]) S1x128.size inbDb (fun j old => dbNew (dTile x g j) old)
    (fun j k hjk => ⟨1, by have : j.val ≠ k.val := fun e => hjk (Fin.ext e); simp [S1x128]; omega⟩) order order_nodup (start i s).db).1 (tileOf (y 1)) (mem_order _)
  exact (congrFun e y).trans ((eq_window (s := S1x6656) (size := S1x128.size) _ (inbDb (tileOf (y 1))) y (ix2 (y 0) (laneOf (y 1))) (by intro a; fin_cases a <;> simp [tileOf, laneOf] <;> omega)).trans (congrFun h _))

theorem acc_eq : (finish i x g s).acc = order.foldl (fun (acc : Vec F S152x1x6656 .f32) j => put (s := S152x1x6656) acc (accOff i j) S1x1x128.size (colScale (dTile x g j))) (start i s).acc :=
  foldl_field (fun s : Held F => s.acc) (step i x g) _ (fun _ _ => rfl) order (start i s)

/-- The scratch's row of the point itself. -/
theorem acc_apply (y : S152x1x6656.Idx) (hy : (y 0).val = (i 0).val) :
    (finish i x g s).acc y = colScale (dTile x g (tileOf (y 2))) (ix3 (0 : Fin 1) (0 : Fin 1) (laneOf (y 2))) := by
  have h := (foldl_put (s := S152x1x6656) (fun j : Fin 52 => accOff i j) S1x1x128.size (accOff_inb i) (fun j _ => colScale (dTile x g j))
    (fun j k hjk => ⟨2, by have : j.val ≠ k.val := fun e => hjk (Fin.ext e); simp [accOff, S1x1x128]; omega⟩) order order_nodup (start i s).acc).1 (tileOf (y 2)) (mem_order _)
  refine (congrFun (acc_eq i x g s) y).trans ((eq_window (s := S152x1x6656) (size := S1x1x128.size) _ (accOff_inb i (tileOf (y 2))) y (ix3 (0 : Fin 1) (0 : Fin 1) (laneOf (y 2))) (by
    intro a; fin_cases a
    · simp [accOff, row_word, hy]
    · have : (y 1).val < 1 := (y 1).isLt
      simp [accOff]
      exact Nat.lt_one_iff.mp this
    · simp [accOff, tileOf, laneOf]; omega)).trans (congrFun h _))

/-- The scratch's other rows. -/
theorem acc_apart (y : S152x1x6656.Idx) (hy : (y 0).val ≠ (i 0).val) : (finish i x g s).acc y = s.acc y := by
  rw [acc_eq]
  refine (foldl_put_apart (s := S152x1x6656) (fun j : Fin 52 => accOff i j) S1x1x128.size (accOff_inb i) (fun j _ => colScale (dTile x g j)) y order _
    (fun j => ⟨0, ?_⟩)).trans ?_
  · simp [accOff, row_word, S1x1x128]; omega
  · unfold start; split <;> rfl

end Cert.KernelIdeal.Hand

end
-- ==== Proof.Launch.lean ====
/- The whole launch. At point `t` the body finds the two inputs' blocks, the bias gradient of the blocks before, and a
   scratch whose first `t` rows are the column scales of those blocks; it leaves the same at `t + 1`. The other outputs'
   blocks depend on the inputs' blocks alone. -/
module

public import proofs.«01_k».proof.Proof.Block
public import proofs.«01_k».proof.Proof.Gen.KernelIdeal.Frame
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow ValueIdx
open Cert.KernelIdeal Cert.KernelIdeal.Gen

variable {F : FTy → Type} [FloatOps F] [Named F]

local notation "𝕄" => MT nD τ sig Unit (Elt F) ℕ (UR sig nD τ) ℕ

/-! ## A block's values, from the two inputs' blocks -/

section Values
variable (x g : Vec F S128x6656 .bf16)

/-- The row-scaled codes. -/
def rcOf : Vec F S128x6656 .fp8e5m2 := fun y => rowCodes (dTile x g (tileOf (y 1))) (ix2 (y 0) (laneOf (y 1)))
/-- The row scales. -/
def rsOf : Vec F S128x52 .f32 := fun y => scale (rowMax (dTile x g (y 1))) (ix2 (y 0) (0 : Fin 1))
/-- The column-scaled codes. -/
def ccOf : Vec F S6656x128 .fp8e5m2 := fun y => colCodes (dTile x g (tileOf (y 0))) (ix2 (laneOf (y 0)) (y 1))
/-- The bias gradient, from what it was before the block. -/
def dbOf (old : Vec F S1x6656 .f32) : Vec F S1x6656 .f32 := fun y =>
  dbNew (dTile x g (tileOf (y 1))) (window old ![0, 128 * (tileOf (y 1)).val] S1x128.size (inbDb (tileOf (y 1)))) (ix2 (y 0) (laneOf (y 1)))
/-- The column scales. -/
def scaleRow (q : Fin 6656) : F .f32 := colScale (dTile x g (tileOf q)) (ix3 (0 : Fin 1) (0 : Fin 1) (laneOf q))

end Values

/-! ## The points -/

/-- The first point's condition in closed form. -/
theorem first_iff : ∀ t : Fin cfg0.N, (Scalar.cmpi .ne (Scalar.extui (Scalar.cmpi .eq (BitVec.ofNat 32 (grid0.coords t 0).val) 0#32) : BitVec 32) 0#32 = 1#1) ↔ t.val % 152 = 0 :=
  (fun t => by
    have ht : t.val < 152 := Nat.lt_of_lt_of_eq t.isLt N_0
    have e0 : (grid0.coords t 0).val = t.val / 1 % 152 := Pipeline.Grid.coords_val t 0 (by decide) rfl
    simp only [e0]
    word_cmp
   : ∀ t : Fin grid0.N, (Scalar.cmpi .ne (Scalar.extui (Scalar.cmpi .eq (BitVec.ofNat 32 (grid0.coords t 0).val) 0#32) : BitVec 32) 0#32 = 1#1) ↔ t.val % 152 = 0)

/-- The last point's condition in closed form. -/
theorem last_iff : ∀ t : Fin cfg0.N, k0_cond2 (grid0.coords t) = 1#1 ↔ t.val % 152 = 151 :=
  (fun t => by
    have ht : t.val < 152 := Nat.lt_of_lt_of_eq t.isLt N_0
    have e0 : (grid0.coords t 0).val = t.val / 1 % 152 := Pipeline.Grid.coords_val t 0 (by decide) rfl
    simp only [k0_cond2, e0]
    word_cmp
   : ∀ t : Fin grid0.N, k0_cond2 (grid0.coords t) = 1#1 ↔ t.val % 152 = 151)

/-- A point's one coordinate is its number. -/
theorem coord (t : Fin cfg0.N) : (grid0.coords t 0).val = t.val := by
  have ht : t.val < 152 := Nat.lt_of_lt_of_eq t.isLt N_0
  have e0 : (grid0.coords t 0).val = t.val / 1 % 152 := Pipeline.Grid.coords_val t 0 (by decide) rfl
  omega

abbrev ms0_0 (t : Fin cfg0.N) : Memref sig .tc .vmem S128x6656 .bf16 := win0_0.stage (cfg0.slots t 0)
abbrev ms0_1 (t : Fin cfg0.N) : Memref sig .tc .vmem S128x6656 .bf16 := win0_1.stage (cfg0.slots t 1)
abbrev ms0_2 (t : Fin cfg0.N) : Memref sig .tc .vmem S1x6656 .f32 := win0_2.stage (cfg0.slots t 2)
abbrev ms0_3 (t : Fin cfg0.N) : Memref sig .tc .vmem S128x6656 .fp8e5m2 := win0_3.stage (cfg0.slots t 3)
abbrev ms0_4 (t : Fin cfg0.N) : Memref sig .tc .vmem S128x52 .f32 := win0_4.stage (cfg0.slots t 4)
abbrev ms0_5 (t : Fin cfg0.N) : Memref sig .tc .vmem S6656x128 .fp8e5m2 := win0_5.stage (cfg0.slots t 5)
abbrev ms0_6 (t : Fin cfg0.N) : Memref sig .tc .vmem S6656x152 .f32 := win0_6.stage (cfg0.slots t 6)
abbrev scM0_0 : Memref sig .tc .vmem S152x1x6656 .f32 := Memref.whole cc0_scratch0

/-- The pipeline's own invariant: the scratch at some contents, and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-- The inputs' blocks at point `t`. -/
def xBlk (c : Dev nD) (t : Fin cfg0.N) : Vec F S128x6656 .bf16 := iblk m c 0 t
def gBlk (c : Dev nD) (t : Fin cfg0.N) : Vec F S128x6656 .bf16 := iblk m c 1 t

/-- The bias gradient before point `n`: the blocks below `n` added up one after another from zero. -/
def dbAt (c : Dev nD) : ℕ → Vec F S1x6656 .f32
  | 0 => broadcast S1x6656 (Scalar.ofBits .f32 0x00000000#32)
  | n + 1 => if h : n < cfg0.N then dbOf (xBlk m c ⟨n, h⟩) (gBlk m c ⟨n, h⟩) (dbAt c n) else dbAt c n

theorem dbAt_succ (c : Dev nD) (t : Fin cfg0.N) : dbAt m c (t.val + 1) = dbOf (xBlk m c t) (gBlk m c t) (dbAt m c t.val) :=
  dif_pos t.isLt

/-- Every block's column scales, a row of the scratch each. -/
def scales (c : Dev nD) : Vec F S152x1x6656 .f32 := fun y =>
  have h : (y 0).val < cfg0.N := lt_of_lt_of_eq (y 0).isLt N_0.symm
  scaleRow (xBlk m c ⟨(y 0).val, h⟩) (gBlk m c ⟨(y 0).val, h⟩) (y 2)

/-- What is true between points: the scratch's rows below `n` are those blocks' column scales. -/
def Inv (c : Dev nD) (n : ℕ) : sProp 𝕄 :=
  iprop((∃ acc : Vec F S152x1x6656 .f32, ⌜∀ y, (y 0).val < n → acc y = scales m c y⌝ ∗ owns (c : Thread nD τ) scM0_0 fullShare acc) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dbAt m c (t.val + 1)
    | ⟨3, _⟩ => rcOf (xBlk m c t) (gBlk m c t)
    | ⟨4, _⟩ => rsOf (xBlk m c t) (gBlk m c t)
    | ⟨5, _⟩ => ccOf (xBlk m c t) (gBlk m c t)
    | ⟨6, _⟩ => turned (scales m c)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = dbAt m c (t.val + 1) := by dsimp only [dats]
theorem after0_3 (c : Dev nD) (t : Fin cfg0.N) : (dats m 0 c).after 3 t = rcOf (xBlk m c t) (gBlk m c t) := by dsimp only [dats]
theorem after0_4 (c : Dev nD) (t : Fin cfg0.N) : (dats m 0 c).after 4 t = rsOf (xBlk m c t) (gBlk m c t) := by dsimp only [dats]
theorem after0_5 (c : Dev nD) (t : Fin cfg0.N) : (dats m 0 c).after 5 t = ccOf (xBlk m c t) (gBlk m c t) := by dsimp only [dats]
theorem after0_6 (c : Dev nD) (t : Fin cfg0.N) : (dats m 0 c).after 6 t = turned (scales m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Past the first point the bias gradient's buffer holds what the point before left. -/
theorem before0_2 (c : Dev nD) (t : Fin cfg0.N) (ht : t.val ≠ 0) (d) : (dats m 0 c).before 2 t d = dbAt m c t.val := by
  have hN : t.val < 152 := lt_of_lt_of_eq t.isLt N_0
  rw [(dats m 0 c).before_out_kept 2 rfl t ht (Bool.eq_false_iff.mpr fun h => by
      have h2 := (flush0_2 ⟨t.val - 1, by omega⟩).mp h
      dsimp only at h2; omega) (fun _ => rfl) (fun _ _ => rfl) d, after0_2]
  congr 1; dsimp only; omega

/-! ## One point -/

/-- What a point leaves in the five buffers, whatever they held but for the bias gradient past the first point. -/
theorem start_db (c : Dev nD) (t : Fin cfg0.N) (s : Held F) (h : t.val ≠ 0 → s.db = dbAt m c t.val) :
    (start (grid0.coords t) s).db = dbAt m c t.val := by
  have hN : t.val < 152 := lt_of_lt_of_eq t.isLt N_0
  unfold start
  by_cases h0 : t.val = 0
  · rw [if_pos ((first_iff t).mpr (by omega)), h0]; rfl
  · rw [if_neg (fun hc => h0 (by have := (first_iff t).mp hc; omega))]; exact h h0

theorem finish_db (c : Dev nD) (t : Fin cfg0.N) (s : Held F) (h : t.val ≠ 0 → s.db = dbAt m c t.val) :
    (finish (grid0.coords t) (xBlk m c t) (gBlk m c t) s).db = dbAt m c (t.val + 1) := by
  rw [dbAt_succ]; funext y; rw [db_apply, start_db m c t s h]; rfl

theorem finish_rc (c : Dev nD) (t : Fin cfg0.N) (s : Held F) :
    (finish (grid0.coords t) (xBlk m c t) (gBlk m c t) s).rc = rcOf (xBlk m c t) (gBlk m c t) := funext fun y => rc_apply _ _ _ _ y
theorem finish_rs (c : Dev nD) (t : Fin cfg0.N) (s : Held F) :
    (finish (grid0.coords t) (xBlk m c t) (gBlk m c t) s).rs = rsOf (xBlk m c t) (gBlk m c t) := funext fun y => rs_apply _ _ _ _ y
theorem finish_cc (c : Dev nD) (t : Fin cfg0.N) (s : Held F) :
    (finish (grid0.coords t) (xBlk m c t) (gBlk m c t) s).cc = ccOf (xBlk m c t) (gBlk m c t) := funext fun y => cc_apply _ _ _ _ y

theorem finish_acc (c : Dev nD) (t : Fin cfg0.N) (s : Held F) (h : ∀ y, (y 0).val < t.val → s.acc y = scales m c y)
    (y : S152x1x6656.Idx) (hy : (y 0).val < t.val + 1) :
    (finish (grid0.coords t) (xBlk m c t) (gBlk m c t) s).acc y = scales m c y := by
  by_cases he : (y 0).val = t.val
  · rw [acc_apply _ _ _ _ y (he.trans (coord t).symm)]
    have ht : t = ⟨(y 0).val, lt_of_lt_of_eq (y 0).isLt N_0.symm⟩ := Fin.ext he.symm
    subst ht
    rfl
  · rw [acc_apart _ _ _ _ y (fun e => he (e.trans (coord t)))]
    exact h y (by omega)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The column scales' buffer after a point: the whole transposed scratch at the last point, as found before it. -/
theorem leaves6 (c : Dev nD) (t : Fin cfg0.N) (acc : Vec F S152x1x6656 .f32) (h : ∀ y, (y 0).val < t.val + 1 → acc y = scales m c y) (d) :
    owns (c : Thread nD τ) (ms0_6 t) fullShare (turn (grid0.coords t) acc ((dats m 0 c).before 6 t d))
      ⊢ ((dats m 0 c).leavesExact 6 t : sProp 𝕄) := by
  have hN : t.val < 152 := lt_of_lt_of_eq t.isLt N_0
  unfold turn
  by_cases h1 : k0_cond2 (grid0.coords t) = 1#1
  · have ht := (last_iff t).mp h1
    rw [if_pos h1, show (dats m 0 c).leavesExact 6 t = owns (c : Thread nD τ) (ms0_6 t) fullShare ((dats m 0 c).after 6 t) from by
      unfold Dat.leavesExact; rw [show cfg0.idle 6 (cfg0.grid.coords t) = false from by
        show (!(k0_cond2 (grid0.coords t) == 1#1)) = false
        rw [h1]; rfl], after0_6,
      show acc = scales m c from funext fun y => h y (by have : (y 0).val < 152 := (y 0).isLt; omega)]
  · rw [if_neg h1, (dats m 0 c).leavesExact_idle 6 t (by
        show (!(k0_cond2 (grid0.coords t) == 1#1)) = true
        rw [beq_eq_false_iff_ne.mpr h1]; rfl) (Bool.eq_false_iff.mpr fun hf => h1 ((last_iff t).mpr ((flush0_6 t).mp hf)))]
    iintro H; iexists _; iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Inv m c t.val from rfl, show (dats m 0 c).Φ t.succ = Inv m c (t.val + 1) from rfl,
    show (dats m 0 c).owesAt () t.succ = (dats m 0 c).owesAt () t.castSucc from rfl]
  rw [show (dats m 0 c).leavesExact 0 t = owns (c : Thread nD τ) (ms0_0 t) fullShare ((dats m 0 c).after 0 t) from rfl,
    show (dats m 0 c).leavesExact 1 t = owns (c : Thread nD τ) (ms0_1 t) fullShare ((dats m 0 c).after 1 t) from rfl,
    show (dats m 0 c).leavesExact 2 t = owns (c : Thread nD τ) (ms0_2 t) fullShare ((dats m 0 c).after 2 t) from rfl,
    show (dats m 0 c).leavesExact 3 t = owns (c : Thread nD τ) (ms0_3 t) fullShare ((dats m 0 c).after 3 t) from rfl,
    show (dats m 0 c).leavesExact 4 t = owns (c : Thread nD τ) (ms0_4 t) fullShare ((dats m 0 c).after 4 t) from rfl,
    show (dats m 0 c).leavesExact 5 t = owns (c : Thread nD τ) (ms0_5 t) fullShare ((dats m 0 c).after 5 t) from rfl,
    after0_0, after0_1, after0_2, after0_3, after0_4, after0_5]
  unfold Inv
  iintro ⟨⟨⟨%acc, %hacc, HS⟩, Hg⟩, Ho, ⟨%d0, H0⟩, ⟨%d1, H1⟩, ⟨%d2, H2⟩, ⟨%d3, H3⟩, ⟨%d4, H4⟩, ⟨%d5, H5⟩, ⟨%d6, H6⟩⟩
  let s : Held F := ⟨(dats m 0 c).before 2 t d2, (dats m 0 c).before 3 t d3, (dats m 0 c).before 4 t d4, (dats m 0 c).before 5 t d5, acc⟩
  have hdb : (finish (grid0.coords t) (xBlk m c t) (gBlk m c t) s).db = dbAt m c (t.val + 1) :=
    finish_db m c t s fun ht => before0_2 m c t ht d2
  have hac := finish_acc m c t s hacc
  iapply (body_run c (grid0.coords t) _ _ _ _ _ _ _ _ _ _ _ _ _ _ _ _ (xBlk m c t) (gBlk m c t) s _ Set.univ _)
  unfold ownsAll
  rw [hdb, finish_rc, finish_rs, finish_cc]
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  isplitl [H6]; · iexact H6
  iintro ⟨⟨H0, H1, H2, H3, H4, H5, HS⟩, H6⟩
  isplitl [HS Hg]
  · isplitl [HS]
    · iexists _
      isplitr; · ipureintro; exact hac
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c t _ hac d6) $$ H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [PhiA0_eq]
  show _ ⊢ Inv m c 0
  unfold Inv
  iintro ⟨⟨%d, H⟩, Hg⟩
  isplitl [H]
  · iexists d
    isplitr; · ipureintro; exact fun y h => absurd h (Nat.not_lt_zero _)
    iexact H
  iexact Hg

theorem inv_out (c : Dev nD) : (dats m 0 c).Φ (Fin.last cfg0.N) ⊢ Pipeline.ΦA spec0 c := by
  rw [PhiA0_eq]
  show Inv m c _ ⊢ _
  unfold Inv
  iintro ⟨⟨%d, %_, H⟩, Hg⟩
  isplitl [H]
  · iexists _; iexact H
  iexact Hg

/-! ## The run -/

set_option backward.isDefEq.respectTransparency.types false in
/-- The launch runs to its end, every window's array at what the points left, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The kernel runs to its end, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Consts.lean ====
/- The float constants of the two programs, as the extended reals their patterns denote. -/
module

public import Idealize.ShloMosaic.PureOps.Ideal

@[expose] public section

noncomputable section

namespace Cert.Consts

open Idealize.ShloMosaic

/-- `0.0`. -/
theorem ofBits_0 : Ideal.ofBits .f32 0x00000000#32 = ((0 : ℝ) : EReal) := by
  simp [Ideal.ofBits, Ideal.ieee, -EReal.coe_mul]
/-- `0.5`. -/
theorem ofBits_half : Ideal.ofBits .f32 0x3F000000#32 = ((1 / 2 : ℝ) : EReal) := by
  simp [Ideal.ofBits, Ideal.ieee, -EReal.coe_mul]; norm_num
/-- `1.0`. -/
theorem ofBits_1 : Ideal.ofBits .f32 0x3F800000#32 = ((1 : ℝ) : EReal) := by
  simp [Ideal.ofBits, Ideal.ieee, -EReal.coe_mul]; norm_num
/-- `1.5`. -/
theorem ofBits_3_2 : Ideal.ofBits .f32 0x3FC00000#32 = ((3 / 2 : ℝ) : EReal) := by
  simp [Ideal.ofBits, Ideal.ieee, -EReal.coe_mul]; norm_num
/-- `2.0`. -/
theorem ofBits_2 : Ideal.ofBits .f32 0x40000000#32 = ((2 : ℝ) : EReal) := by
  simp [Ideal.ofBits, Ideal.ieee, -EReal.coe_mul]; norm_num
/-- The positive infinity. -/
theorem ofBits_inf : Ideal.ofBits .f32 0x7F800000#32 = ⊤ := by
  simp [Ideal.ofBits, Ideal.ieee]
/-- The float of `1 / 57344`. -/
theorem ofBits_inv_max : Ideal.ofBits .f32 0x37924925#32 = ((9586981 / 549755813888 : ℝ) : EReal) := by
  simp [Ideal.ofBits, Ideal.ieee, -EReal.coe_mul]; norm_num

end Cert.Consts

end
-- ==== Proof.Maths.lean ====
/- The mathematics of one element: the two ways of writing the derivative of the tanh gelu are one function on the
   extended reals, and so are the two ways of writing a group's scale and its reciprocal. -/
module

public import proofs.«01_k».proof.Proof.Consts
public import Idealize.ShloMosaic.PureOps.Ideal.Laws

@[expose] public section

noncomputable section

namespace Cert.Maths

open Idealize.ShloMosaic Cert.Consts

/-! ## The derivative of the gelu -/

/-- The derivative as the kernel factors it; `k` is the tanh argument's slope and `kc` its cubic coefficient. -/
def slopeK (k kc k3 third x : EReal) : EReal :=
  let p := kc * x * x
  let t := Ideal.tanh (x * (p + k))
  Ideal.ofBits .f32 0x3FC00000#32 * ((Ideal.ofBits .f32 0x3F800000#32 + t) * (third + (Ideal.ofBits .f32 0x3F800000#32 - t) * x * (p + k3)))

/-- The derivative as the product rule gives it. -/
def slopeR (k c c3 x : EReal) : EReal :=
  let t := Ideal.tanh (k * (x + c * x * x * x))
  Ideal.ofBits .f32 0x3F000000#32 * (Ideal.ofBits .f32 0x3F800000#32 + t)
    + Ideal.ofBits .f32 0x3F000000#32 * x * (Ideal.ofBits .f32 0x3F800000#32 - t * t) * k * (Ideal.ofBits .f32 0x3F800000#32 + c3 * x * x)

/-- The two are one function, infinities included. -/
theorem slope_eq (k c : ℝ) (hk : 0 < k) (hc : 0 < c) (x : EReal) :
    slopeK k ((k * c : ℝ) : EReal) ((k * (1 / 3) : ℝ) : EReal) ((1 / 3 : ℝ) : EReal) x = slopeR k c ((3 * c : ℝ) : EReal) x := by
  have hkc : 0 < k * c := mul_pos hk hc
  unfold slopeK slopeR
  rw [ofBits_1, ofBits_half, ofBits_3_2]
  induction x with
  | bot =>
    simp only [EReal.coe_mul_bot_of_pos hkc, EReal.coe_mul_bot_of_pos hc, EReal.bot_mul_bot, EReal.top_mul_bot, EReal.bot_mul_top,
      EReal.top_add_coe, EReal.coe_mul_bot_of_pos hk, EReal.add_bot, EReal.bot_add, Ideal.tanh_bot]
    simp only [show (-1 : EReal) = ((-1 : ℝ) : EReal) from rfl, ← EReal.coe_add, ← EReal.coe_sub, ← EReal.coe_mul]
    norm_num
  | top =>
    simp only [EReal.coe_mul_top_of_pos hkc, EReal.coe_mul_top_of_pos hc, EReal.top_mul_top,
      EReal.top_add_coe, EReal.top_add_top, EReal.coe_mul_top_of_pos hk, Ideal.tanh_top]
    simp only [show (1 : EReal) = ((1 : ℝ) : EReal) from rfl, ← EReal.coe_add, ← EReal.coe_sub, ← EReal.coe_mul]
    norm_num
    simp only [show (2 : EReal) = ((2 : ℝ) : EReal) from rfl, show (1 : EReal) = ((1 : ℝ) : EReal) from rfl, ← EReal.coe_mul]
    norm_num
  | coe x =>
    simp only [← EReal.coe_mul, ← EReal.coe_add, ← EReal.coe_sub, Ideal.tanh_coe]
    rw [show k * (x + c * x * x * x) = x * (k * c * x * x + k) by ring]
    congr 1; ring

/-- The tanh argument's slope at the origin, `sqrt (2 / pi)`. -/
def K : ℝ := Real.sqrt (2 * Real.pi⁻¹)
/-- The weight of its cubic term. -/
def C : ℝ := 8943 / 200000
theorem K_pos : 0 < K := Real.sqrt_pos.mpr (mul_pos (by norm_num) (inv_pos.mpr Real.pi_pos))
theorem C_pos : 0 < C := by unfold C; norm_num

/-- The derivative of the tanh gelu. -/
def slope (x : EReal) : EReal := slopeR K C ((3 * C : ℝ) : EReal) x

/-! ## A group's scale -/

/-- The largest magnitude of a group of 128. -/
def groupMax (f : Fin 128 → EReal) : EReal :=
  (Finset.univ : Finset (Fin 128)).fold max (Ideal.ofBits .f32 0xFF800000#32) fun k => max (f k) (-f k)

/-- A largest magnitude is not negative. -/
theorem groupMax_nonneg (f : Fin 128 → EReal) : 0 ≤ groupMax f := by
  refine (Finset.le_fold_max (0 : EReal)).mpr (.inr ⟨0, Finset.mem_univ _, ?_⟩)
  rcases le_total 0 (f 0) with h | h
  · exact le_max_of_le_left h
  · exact le_max_of_le_right (EReal.neg_nonneg.mpr h)

/-- The largest magnitude over the format's largest finite value. -/
def ratio (a : EReal) : EReal := a * Ideal.ofBits .f32 0x37924925#32
/-- The floor of the base-two logarithm. -/
def floorLog (y : EReal) : EReal := Ideal.liftRound Int.floor (Ideal.div (Ideal.log y) (Ideal.log (Ideal.ofBits .f32 0x40000000#32)))
/-- Whether a value is zero or infinite. -/
def edge (b : EReal) : BitVec 1 := IntOp.ori (Ideal.cmp .oeq b (Ideal.ofBits .f32 0x00000000#32)) (Ideal.cmp .oeq b (Ideal.ofBits .f32 0x7F800000#32))

/-- The scale as the kernel has it: twice the power of two at or below the ratio. -/
def scaleK (a : EReal) : EReal :=
  Scalar.select (edge (Ideal.exp2 (floorLog (ratio a)))) (Ideal.ofBits .f32 0x3F800000#32)
    (Ideal.ofBits .f32 0x40000000#32 * Ideal.exp2 (floorLog (ratio a)))
/-- Its reciprocal as the kernel has it. -/
def invK (a : EReal) : EReal :=
  Scalar.select (edge (Ideal.exp2 (floorLog (ratio a)))) (Ideal.ofBits .f32 0x3F800000#32)
    (Ideal.div (Ideal.ofBits .f32 0x3F000000#32) (Ideal.exp2 (floorLog (ratio a))))
/-- The reference's exponent of a ratio. -/
def expoOf (y : EReal) : EReal :=
  Scalar.select (edge y) (Ideal.ofBits .f32 0x00000000#32) (floorLog y + Ideal.ofBits .f32 0x3F800000#32)
/-- The reference's exponent of a largest magnitude. -/
def expo (a : EReal) : EReal := expoOf (ratio a)
/-- The reference's scale. -/
def scaleR (a : EReal) : EReal := Ideal.exp2 (expo a)
/-- Its reciprocal. -/
def invR (a : EReal) : EReal := Ideal.exp2 (Ideal.ofBits .f32 0x00000000#32 - expo a)

theorem edge_zero : edge ((0 : ℝ) : EReal) = 1#1 := by
  unfold edge; rw [ofBits_0, ofBits_inf]; simp [Ideal.cmp, IntOp.ori]
theorem edge_top : edge ⊤ = 1#1 := by
  unfold edge; rw [ofBits_0, ofBits_inf]; simp [Ideal.cmp, IntOp.ori]
theorem edge_pos (r : ℝ) (h : 0 < r) : edge (r : EReal) = 0#1 := by
  unfold edge; rw [ofBits_0, ofBits_inf]
  simp only [Ideal.cmp, IntOp.ori, EReal.coe_eq_coe_iff, EReal.coe_ne_top, h.ne', decide_false]
  rfl

theorem log_two_pos : 0 < Real.log 2 := Real.log_pos (by norm_num)
theorem log_two : Ideal.log (Ideal.ofBits .f32 0x40000000#32) = ((Real.log 2 : ℝ) : EReal) := by
  rw [ofBits_2, Ideal.log_coe, if_neg (by norm_num)]

theorem floorLog_zero : floorLog ((0 : ℝ) : EReal) = ⊥ := by
  unfold floorLog
  rw [log_two, Ideal.log_coe, if_pos le_rfl, Ideal.div_coe log_two_pos.ne', EReal.bot_mul_coe_of_pos (by have := log_two_pos; positivity)]
  rfl
theorem floorLog_top : floorLog ⊤ = ⊤ := by
  unfold floorLog
  rw [log_two, Ideal.log_top, Ideal.div_coe log_two_pos.ne', EReal.top_mul_coe_of_pos (by have := log_two_pos; positivity)]
  rfl
theorem floorLog_pos (r : ℝ) (h : 0 < r) : floorLog (r : EReal) = ((⌊Real.log r * (1 / Real.log 2)⌋ : ℝ) : EReal) := by
  unfold floorLog
  rw [log_two, Ideal.log_coe, if_neg (not_le.mpr h), Ideal.div_coe log_two_pos.ne', ← EReal.coe_mul]
  rfl

/-- A ratio that is not negative is zero, a positive real or infinite. -/
theorem ratio_cases (a : EReal) (h : 0 ≤ a) : ratio a = ((0 : ℝ) : EReal) ∨ ratio a = ⊤ ∨ ∃ r : ℝ, 0 < r ∧ ratio a = (r : EReal) := by
  unfold ratio; rw [ofBits_inv_max]
  induction a with
  | bot => exact absurd h (by simp)
  | top => exact .inr (.inl (EReal.top_mul_coe_of_pos (by norm_num)))
  | coe r =>
    rw [← EReal.coe_mul]
    rcases (EReal.coe_nonneg.mp h).eq_or_lt with h | h
    · exact .inl (by rw [← h, zero_mul])
    · exact .inr (.inr ⟨_, mul_pos h (by norm_num), rfl⟩)

theorem two_rpow_succ (n : ℝ) : Real.rpow 2 (n + 1) = 2 * Real.rpow 2 n := by
  show (2 : ℝ) ^ (n + 1) = 2 * (2 : ℝ) ^ n
  rw [Real.rpow_add (by norm_num), Real.rpow_one, mul_comm]
theorem two_rpow_pos (n : ℝ) : 0 < Real.rpow 2 n := Real.rpow_pos_of_pos (by norm_num) n
theorem two_rpow_neg (n : ℝ) : Real.rpow 2 (0 - n) = 1 / Real.rpow 2 n := by
  show (2 : ℝ) ^ (0 - n) = 1 / (2 : ℝ) ^ n
  rw [zero_sub, Real.rpow_neg (by norm_num), one_div]

/-- The two scales agree on largest magnitudes. -/
theorem scale_eq (a : EReal) (h : 0 ≤ a) : scaleK a = scaleR a := by
  unfold scaleK scaleR expo expoOf
  rcases ratio_cases a h with e | e | ⟨r, hr, e⟩ <;> rw [e]
  · rw [floorLog_zero, Ideal.exp2_bot, show (0 : EReal) = ((0 : ℝ) : EReal) from rfl, edge_zero, ofBits_0, ofBits_1]
    show ((1 : ℝ) : EReal) = Ideal.exp2 ((0 : ℝ) : EReal)
    rw [Ideal.exp2_coe]; congr 1; exact (Real.rpow_zero 2).symm
  · rw [floorLog_top, Ideal.exp2_top, edge_top, ofBits_0, ofBits_1]
    show ((1 : ℝ) : EReal) = Ideal.exp2 ((0 : ℝ) : EReal)
    rw [Ideal.exp2_coe]; congr 1; exact (Real.rpow_zero 2).symm
  · rw [floorLog_pos r hr, Ideal.exp2_coe, edge_pos r hr, edge_pos _ (two_rpow_pos _), ofBits_0, ofBits_1, ofBits_2]
    show ((2 : ℝ) : EReal) * _ = Ideal.exp2 (_ + _)
    rw [← EReal.coe_mul, ← EReal.coe_add, Ideal.exp2_coe, two_rpow_succ]

/-- So do their reciprocals. -/
theorem inv_eq (a : EReal) (h : 0 ≤ a) : invK a = invR a := by
  unfold invK invR expo expoOf
  rcases ratio_cases a h with e | e | ⟨r, hr, e⟩ <;> rw [e]
  · rw [floorLog_zero, Ideal.exp2_bot, show (0 : EReal) = ((0 : ℝ) : EReal) from rfl, edge_zero, ofBits_0, ofBits_1]
    show ((1 : ℝ) : EReal) = Ideal.exp2 (((0 : ℝ) : EReal) - ((0 : ℝ) : EReal))
    rw [← EReal.coe_sub, Ideal.exp2_coe, sub_zero]; congr 1; exact (Real.rpow_zero 2).symm
  · rw [floorLog_top, Ideal.exp2_top, edge_top, ofBits_0, ofBits_1]
    show ((1 : ℝ) : EReal) = Ideal.exp2 (((0 : ℝ) : EReal) - ((0 : ℝ) : EReal))
    rw [← EReal.coe_sub, Ideal.exp2_coe, sub_zero]; congr 1; exact (Real.rpow_zero 2).symm
  · rw [floorLog_pos r hr, Ideal.exp2_coe, edge_pos r hr, edge_pos _ (two_rpow_pos _), ofBits_0, ofBits_1, ofBits_half]
    show Ideal.div _ _ = Ideal.exp2 (_ - (_ + _))
    rw [Ideal.div_coe (two_rpow_pos _).ne', ← EReal.coe_mul, ← EReal.coe_add, ← EReal.coe_sub, Ideal.exp2_coe, two_rpow_neg, two_rpow_succ]
    congr 1; rw [one_div_mul_one_div]

/-- A value scaled, clipped to the format's range. -/
def code (v inv : EReal) : EReal := min (Ideal.ofBits .f32 0x47600000#32) (max (Ideal.ofBits .f32 0xC7600000#32) (v * inv))

end Cert.Maths

end
-- ==== Proof.Spec.lean ====
/- The five results as functions of the gelu's gradient `d` (a matrix of extended reals), of the way a group's scale is
   written and of the way its reciprocal is; and the reductions and reshapes they come from, read at an element. -/
module

public import proofs.«01_k».proof.Proof.Maths
public import Idealize.ShloMosaic.Lib.ValueIdx
public import Idealize.ShloMosaic.Lib.ValueLayout
public import Idealize.ShloMosaic.Lib.ValueLayoutCasts

@[expose] public section

noncomputable section

namespace Cert.Spec

open Idealize.ShloMosaic Idealize.ShloMosaic.ValueIdx Cert.Maths

/-- Element `k` of group `j` of a row of `b = n * 128`. -/
def at128 {b n : ℕ} (hb : b = n * 128) (j : Fin n) (k : Fin 128) : Fin b := ⟨128 * j.val + k.val, by omega⟩

/-- The largest magnitude of group `j` of `f`. -/
def maxAt {b n : ℕ} (hb : b = n * 128) (f : Fin b → EReal) (j : Fin n) : EReal := groupMax fun k => f (at128 hb j k)

/-- The group a column lies in. -/
def tile {b n : ℕ} (hb : b = n * 128) (q : Fin b) : Fin n := ⟨q.val / 128, by omega⟩

theorem hcols : 6656 = 52 * 128 := by norm_num
theorem hrows : 19456 = 152 * 128 := by norm_num

/-- The gelu's gradient: the incoming gradient times the derivative. -/
def grad (X G : (⟨2, ![19456, 6656]⟩ : Shape).Idx → EReal) (r : Fin 19456) (q : Fin 6656) : EReal := G (ix2 r q) * slope (X (ix2 r q))

section Results
variable (sc inv : EReal → EReal) (d : Fin 19456 → Fin 6656 → EReal)

/-- The bias gradient: the column sums. -/
def db : (⟨2, ![1, 6656]⟩ : Shape).Idx → EReal := fun y => ∑ r : Fin 19456, d r (y 1)
/-- The row-scaled codes. -/
def rc : (⟨2, ![19456, 6656]⟩ : Shape).Idx → EReal := fun y => code (d (y 0) (y 1)) (inv (maxAt hcols (d (y 0)) (tile hcols (y 1))))
/-- The row scales. -/
def rs : (⟨2, ![19456, 52]⟩ : Shape).Idx → EReal := fun y => sc (maxAt hcols (d (y 0)) (y 1))
/-- The column-scaled codes. -/
def cc : (⟨2, ![6656, 19456]⟩ : Shape).Idx → EReal := fun y =>
  code (d (y 1) (y 0)) (inv (maxAt hrows (fun r => d r (y 0)) (tile hrows (y 1))))
/-- The column scales. -/
def cs : (⟨2, ![6656, 152]⟩ : Shape).Idx → EReal := fun y => sc (maxAt hrows (fun r => d r (y 0)) (y 1))

end Results

theorem rs_eq (d : Fin 19456 → Fin 6656 → EReal) : rs scaleK d = rs scaleR d := funext fun _ => scale_eq _ (groupMax_nonneg _)
theorem cs_eq (d : Fin 19456 → Fin 6656 → EReal) : cs scaleK d = cs scaleR d := funext fun _ => scale_eq _ (groupMax_nonneg _)
theorem rc_eq (d : Fin 19456 → Fin 6656 → EReal) : rc invK d = rc invR d := funext fun _ => congrArg _ (inv_eq _ (groupMax_nonneg _))
theorem cc_eq (d : Fin 19456 → Fin 6656 → EReal) : cc invK d = cc invR d := funext fun _ => congrArg _ (inv_eq _ (groupMax_nonneg _))

/-! ## Reshapes into groups -/

section Layout
variable {α : Type} {a b n : ℕ} (hb : b = n * 128)

/-- A matrix reshaped into groups. -/
theorem group_apply (x : (⟨2, ![a, b]⟩ : Shape).Idx → α) (h : (⟨2, ![a, b]⟩ : Shape).ShapeCasts ⟨3, ![a, n, 128]⟩)
    (r : Fin a) (j : Fin n) (k : Fin 128) : shapeCast ⟨3, ![a, n, 128]⟩ x h (ix3 r j k) = x (ix2 r (at128 hb j k)) := by
  refine shapeCast_apply x h _ _ ?_
  rw [Shape.rowMajor_val_two, Shape.rowMajor_val_three]
  show r.val * b + (128 * j.val + k.val) = (r.val * n + j.val) * 128 + k.val
  rw [hb]; ring

/-- Groups put back into a matrix. -/
theorem ungroup_apply (x : (⟨3, ![a, n, 128]⟩ : Shape).Idx → α) (h : (⟨3, ![a, n, 128]⟩ : Shape).ShapeCasts ⟨2, ![a, b]⟩)
    (r : Fin a) (q : Fin b) :
    shapeCast ⟨2, ![a, b]⟩ x h (ix2 r q) = x (ix3 r (tile hb q) ⟨q.val % 128, Nat.mod_lt _ (by norm_num)⟩) := by
  refine shapeCast_apply x h _ _ ?_
  rw [Shape.rowMajor_val_two, Shape.rowMajor_val_three]
  show (r.val * n + q.val / 128) * 128 + q.val % 128 = r.val * b + q.val
  have := Nat.div_add_mod q.val 128
  have e : r.val * b = r.val * n * 128 := by rw [hb]; ring
  omega

theorem at128_tile (q : Fin b) : at128 hb (tile hb q) ⟨q.val % 128, Nat.mod_lt _ (by norm_num)⟩ = q :=
  Fin.ext (Nat.div_add_mod q.val 128)

/-- One value per group, repeated over the group. -/
theorem perGroup_apply (x : (⟨2, ![a, n]⟩ : Shape).Idx → α) (h : (⟨2, ![a, n]⟩ : Shape).ShapeCasts ⟨3, ![a, n, 1]⟩)
    (h' : (⟨3, ![a, n, 1]⟩ : Shape).Broadcasts ⟨3, ![a, n, 128]⟩) (r : Fin a) (j : Fin n) (k : Fin 128) :
    broadcastTo ⟨3, ![a, n, 128]⟩ (shapeCast ⟨3, ![a, n, 1]⟩ x h) h' (ix3 r j k) = x (ix2 r j) := by
  refine (broadcastTo_apply _ h' _ (ix3 r j (0 : Fin 1)) fun ax => ?_).trans ?_
  · match ax with
    | ⟨0, _⟩ =>
      show r.val = if a = 1 then 0 else r.val
      split <;> omega
    | ⟨1, _⟩ =>
      show j.val = if n = 1 then 0 else j.val
      split <;> omega
    | ⟨2, _⟩ => rfl
  · refine shapeCast_apply x h _ _ ?_
    rw [Shape.rowMajor_val_two, Shape.rowMajor_val_three]
    show r.val * n + j.val = (r.val * n + j.val) * 1 + 0
    omega

/-- A column vector repeated along its rows. -/
theorem alongRows_apply (x : (⟨2, ![a, 1]⟩ : Shape).Idx → α) (h : (⟨2, ![a, 1]⟩ : Shape).Broadcasts ⟨2, ![a, b]⟩) (r : Fin a) (q : Fin b) :
    broadcastTo ⟨2, ![a, b]⟩ x h (ix2 r q) = x (ix2 r (0 : Fin 1)) := by
  refine broadcastTo_apply _ h _ _ fun ax => ?_
  match ax with
  | ⟨0, _⟩ =>
    show r.val = if a = 1 then 0 else r.val
    split <;> omega
  | ⟨1, _⟩ => rfl

end Layout

/-! ## Elementwise -/

theorem ratio_apply {s : Shape} (v : FVec Ideal s .f32) (y : s.Idx) :
    mulf v (broadcast s (Scalar.ofBits .f32 0x37924925#32)) y = ratio (v y) := rfl

theorem exp2_apply {s : Shape} (v : FVec Ideal s .f32) (y : s.Idx) : exp2 v y = Ideal.exp2 (v y) := rfl

theorem expo_apply {s : Shape} (v : FVec Ideal s .f32) (y : s.Idx) :
    select (ori (cmpf .oeq v (broadcast s (Scalar.ofBits .f32 0x00000000#32))) (cmpf .oeq v (broadcast s (Scalar.ofBits .f32 0x7F800000#32))))
      (broadcast s (Scalar.ofBits .f32 0x00000000#32))
      (addf (floor (divf (log v) (log (broadcast s (Scalar.ofBits .f32 0x40000000#32))))) (broadcast s (Scalar.ofBits .f32 0x3F800000#32))) y
      = expoOf (v y) := rfl

theorem inv_apply {s : Shape} (e : FVec Ideal s .f32) (y : s.Idx) :
    exp2 (subf (broadcast s (Scalar.ofBits .f32 0x00000000#32)) e) y = Ideal.exp2 (Ideal.ofBits .f32 0x00000000#32 - e y) := rfl

theorem code_apply {s : Shape} (v i : FVec Ideal s .f32) (h) (y : s.Idx) :
    truncf .fp8e5m2 (minimumf (broadcast s (Scalar.ofBits .f32 0x47600000#32))
      (maximumf (broadcast s (Scalar.ofBits .f32 0xC7600000#32)) (mulf v i))) h y = code (v y) (i y) := rfl

/-! ## Reductions -/

/-- The largest magnitudes over the last of three axes. -/
theorem max3_apply {a n : ℕ} (v : FVec Ideal ⟨3, ![a, n, 128]⟩ .f32) (h : (⟨3, ![a, n, 128]⟩ : Shape).Reduces [2] ⟨2, ![a, n]⟩)
    (hφ hacc) (r : Fin a) (j : Fin n) :
    multiReduction .maximumf [2] ⟨2, ![a, n]⟩ (absf v) 0xFF800000#32 h hφ hacc (ix2 r j) = groupMax fun k => v (ix3 r j k) := by
  refine (Ideal.multiReduction_maximumf_single _ _ h _ _ _).trans ?_
  refine congrArg (fun f => Finset.fold max _ f Finset.univ) (funext fun k => ?_)
  show absf v (h.lift (ix2 r j) k) = absf v (ix3 r j k)
  refine congrArg (absf v) (funext fun ax => Fin.ext ?_)
  match ax with
  | ⟨0, _⟩ => rfl
  | ⟨1, _⟩ => rfl
  | ⟨2, _⟩ => rfl

/-- The largest magnitudes of the rows of a square. -/
theorem maxRows_apply (v : FVec Ideal ⟨2, ![128, 128]⟩ .f32) (h : (⟨2, ![128, 128]⟩ : Shape).Reduces [1] ⟨1, ![128]⟩) (hφ hacc) (r : Fin 128) :
    multiReduction .maximumf [1] ⟨1, ![128]⟩ (absf v) 0xFF800000#32 h hφ hacc (ix1 r) = groupMax fun k => v (ix2 r k) := by
  refine (Ideal.multiReduction_maximumf_single _ _ h _ _ _).trans ?_
  refine congrArg (fun f => Finset.fold max _ f Finset.univ) (funext fun k => ?_)
  show absf v (h.lift (ix1 r) k) = absf v (ix2 r k)
  refine congrArg (absf v) (funext fun ax => Fin.ext ?_)
  match ax with
  | ⟨0, _⟩ => rfl
  | ⟨1, _⟩ => rfl

/-- The largest magnitudes of the columns of a square. -/
theorem maxCols_apply (v : FVec Ideal ⟨2, ![128, 128]⟩ .f32) (h : (⟨2, ![128, 128]⟩ : Shape).Reduces [0] ⟨1, ![128]⟩) (hφ hacc) (l : Fin 128) :
    multiReduction .maximumf [0] ⟨1, ![128]⟩ (absf v) 0xFF800000#32 h hφ hacc (ix1 l) = groupMax fun k => v (ix2 k l) := by
  refine (Ideal.multiReduction_maximumf_single _ _ h _ _ _).trans ?_
  refine congrArg (fun f => Finset.fold max _ f Finset.univ) (funext fun k => ?_)
  show absf v (h.lift (ix1 l) k) = absf v (ix2 k l)
  refine congrArg (absf v) (funext fun ax => Fin.ext ?_)
  match ax with
  | ⟨0, _⟩ => rfl
  | ⟨1, _⟩ => rfl

/-- The column sums of a matrix. -/
theorem sumCols_apply {a b : ℕ} (v : FVec Ideal ⟨2, ![a, b]⟩ .f32) (h : (⟨2, ![a, b]⟩ : Shape).Reduces [0] ⟨1, ![b]⟩) (hφ hacc) (q : Fin b) :
    multiReduction .add [0] ⟨1, ![b]⟩ v 0x00000000#32 h hφ hacc (ix1 q) = ∑ k : Fin a, (v (ix2 k q) : EReal) := by
  refine (Ideal.multiReduction_add_single _ _ h _ _ _).trans ?_
  refine Finset.sum_congr rfl fun k _ => congrArg v (funext fun ax => Fin.ext ?_)
  match ax with
  | ⟨0, _⟩ => rfl
  | ⟨1, _⟩ => rfl

/-- A sum over all rows, block of 128 by block of 128. -/
theorem sum_blocks (f : Fin 19456 → EReal) : ∑ r, f r = ∑ t : Fin 152, ∑ k : Fin 128, f (at128 hrows t k) := by
  rw [← Fintype.sum_prod_type']
  refine (Fintype.sum_equiv (finProdFinEquiv (m := 152) (n := 128)) _ _ fun p => ?_).symm
  refine congrArg f (Fin.ext ?_)
  show 128 * p.1.val + p.2.val = p.2.val + 128 * p.1.val
  omega

end Cert.Spec

end
-- ==== Proof.TileValue.lean ====
/- One tile over the extended reals, element by element. -/
module

public import proofs.«01_k».proof.Proof.Spec
public import proofs.«01_k».proof.Proof.TileRun

@[expose] public section

noncomputable section

namespace Cert.KernelIdeal.Hand

open Idealize.ShloMosaic Idealize.ShloMosaic.ValueIdx Idealize.ShloMosaic.VecWindow
open Cert.KernelIdeal Cert.KernelIdeal.Gen Cert.Maths Cert.Spec

theorem named_k : Named.named (F := Ideal) (φ := .f32) κ "gelu_k" 0x3F4C422A#32 = (K : EReal) :=
  IdealRules.named_const.ideal_named_scalar κ "gelu_k" _ _ rfl
theorem named_kc : Named.named (F := Ideal) (φ := .f32) κ "gelu_kc" 0x3D122279#32 = ((K * C : ℝ) : EReal) :=
  IdealRules.named_const.ideal_named_scalar κ "gelu_kc" _ _ rfl
theorem named_k_third : Named.named (F := Ideal) (φ := .f32) κ "gelu_k_third" 0x3E882C1C#32 = ((K * (1 / 3) : ℝ) : EReal) :=
  IdealRules.named_const.ideal_named_scalar κ "gelu_k_third" _ _ rfl
theorem named_third : Named.named (F := Ideal) (φ := .f32) κ "third" 0x3EAAAAAB#32 = ((1 / 3 : ℝ) : EReal) :=
  IdealRules.named_const.ideal_named_scalar κ "third" _ _ rfl

/-- A tile's gradient is the incoming gradient times the gelu's derivative. -/
theorem dgelu_apply (x g : Vec Ideal S128x128 .bf16) (y : S128x128.Idx) : dgelu (F := Ideal) x g y = (g y : EReal) * slope (x y) := by
  show (g y : EReal) * slopeK (Named.named (F := Ideal) (φ := .f32) κ "gelu_k" 0x3F4C422A#32) (Named.named (F := Ideal) (φ := .f32) κ "gelu_kc" 0x3D122279#32)
    (Named.named (F := Ideal) (φ := .f32) κ "gelu_k_third" 0x3E882C1C#32) (Named.named (F := Ideal) (φ := .f32) κ "third" 0x3EAAAAAB#32) (x y) = _
  rw [named_k, named_kc, named_k_third, named_third, slope_eq K C K_pos C_pos]
  rfl

/-- The same inside a block. -/
theorem dTile_apply (x g : Vec Ideal S128x6656 .bf16) (j : Fin 52) (r l : Fin 128) :
    dTile (F := Ideal) x g j (ix2 r l) = (g (ix2 r (at128 hcols j l)) : EReal) * slope (x (ix2 r (at128 hcols j l))) := by
  refine (dgelu_apply _ _ _).trans ?_
  have e : (Rect.unit (s := S128x6656) ![0, 128 * j.val] S128x128.size (inbCols j)).emb (ix2 r l) = ix2 r (at128 hcols j l) := by
    funext ax; apply Fin.ext
    match ax with
    | ⟨0, _⟩ => show 0 + 1 * r.val = r.val; omega
    | ⟨1, _⟩ => show 128 * j.val + 1 * l.val = 128 * j.val + l.val; omega
  exact congrArg (fun y => (g y : EReal) * slope (x y)) e

theorem scale_apply {s : Shape} (a : FVec Ideal s .f32) (y : s.Idx) : scale a y = scaleK (a y) := rfl
theorem invScale_apply {s : Shape} (a : FVec Ideal s .f32) (y : s.Idx) : invScale a y = invK (a y) := rfl

variable (d : FVec Ideal S128x128 .f32)

theorem rowMax_apply (r : Fin 128) : rowMax d (ix2 r (0 : Fin 1)) = groupMax fun k => d (ix2 r k) :=
  (shapeCast_a_a1_apply _ _ r 0).trans (maxRows_apply _ _ _ _ r)
theorem colMax_apply (l : Fin 128) : colMax d (ix2 (0 : Fin 1) l) = groupMax fun k => d (ix2 k l) :=
  (shapeCast_a_1a_apply _ _ 0 l).trans (maxCols_apply _ _ _ _ l)

/-- A row's scale. -/
theorem rowScale_apply (r : Fin 128) : scale (rowMax d) (ix2 r (0 : Fin 1)) = scaleK (groupMax fun k => d (ix2 r k)) :=
  (scale_apply _ _).trans (congrArg scaleK (rowMax_apply d r))
/-- A column's scale. -/
theorem colScale_apply (l : Fin 128) : colScale d (ix3 (0 : Fin 1) (0 : Fin 1) l) = scaleK (groupMax fun k => d (ix2 k l)) := by
  refine (shapeCast_ab_1ab_apply _ _ 0 0 l).trans ?_
  exact (scale_apply _ _).trans (congrArg scaleK (colMax_apply d l))
/-- A row-scaled code. -/
theorem rowCodes_apply (r l : Fin 128) : rowCodes d (ix2 r l) = code (d (ix2 r l)) (invK (groupMax fun k => d (ix2 r k))) := by
  refine congrArg (code (d (ix2 r l))) ((alongRows_apply _ _ r l).trans ?_)
  exact (invScale_apply _ _).trans (congrArg invK (rowMax_apply d r))
/-- A column-scaled code, transposed. -/
theorem colCodes_apply (l r : Fin 128) : colCodes d (ix2 l r) = code (d (ix2 r l)) (invK (groupMax fun k => d (ix2 k l))) := by
  refine (congrArg (fun q : EReal => min (Ideal.ofBits .f32 0x47600000#32) (max (Ideal.ofBits .f32 0xC7600000#32) q)) (transpose_ix2_apply _ _ l r)).trans ?_
  refine congrArg (code (d (ix2 r l))) ((broadcastTo_1b_ab_apply _ _ r l).trans ?_)
  exact (invScale_apply _ _).trans (congrArg invK (colMax_apply d l))
/-- The bias gradient over a tile. -/
theorem dbNew_apply (old : Vec Ideal S1x128 .f32) (l : Fin 128) :
    dbNew d old (ix2 (0 : Fin 1) l) = (old (ix2 (0 : Fin 1) l) : EReal) + ∑ k : Fin 128, (d (ix2 k l) : EReal) := by
  refine congrArg₂ (· + · : EReal → EReal → EReal) (shapeCast_apply _ _ _ _ rfl) ?_
  exact (shapeCast_a_1a_apply _ _ 0 l).trans (sumCols_apply _ _ _ _ l)

end Cert.KernelIdeal.Hand

end
-- ==== Proof.Arrays.lean ====
/- What the kernel's five arrays hold at the end over the extended reals: the five results of the gelu's gradient. -/
module

public import proofs.«01_k».proof.Proof.Launch
public import proofs.«01_k».proof.Proof.TileValue
public import Idealize.ShloMosaic.Lib.Pipeline.ValueKit.Geometry

@[expose] public section

set_option maxRecDepth 16384

noncomputable section

namespace Cert.KernelIdeal.Hand

open Idealize.ShloMosaic Idealize.ShloMosaic.ValueIdx Idealize.ShloMosaic.VecWindow Idealize.ShloMosaic.TcCoe Idealize.SL.Sem
open Idealize.ShloMosaic.Pipeline (Dat)
open Cert.KernelIdeal Cert.KernelIdeal.Gen Cert.Maths Cert.Spec

variable (m : (ℓ : Loc nD τ sig) → Buf (Elt Ideal) ℓ) (ρ : Dev nD → PrngReg)

/-- The gelu's gradient of the arguments as launched. -/
def gr (c : Dev nD) : Fin 19456 → Fin 6656 → EReal := grad (m ((c : Thread nD τ).loc main_arg0)) (m ((c : Thread nD τ).loc main_arg1))

/-- A point as a block of rows. -/
def blockOf (t : Fin cfg0.N) : Fin 152 := ⟨t.val, lt_of_lt_of_eq t.isLt N_0⟩

/-! ## Where the blocks lie -/

theorem index_in0 : ∀ t : Fin cfg0.N, win0_0.index t = ![t.val, 0] := (by decide +kernel : ∀ t : Fin grid0.N, _)
theorem index_in1 : ∀ t : Fin cfg0.N, win0_1.index t = ![t.val, 0] := (by decide +kernel : ∀ t : Fin grid0.N, _)
theorem index_rc : ∀ t : Fin cfg0.N, win0_3.index t = ![t.val, 0] := (by decide +kernel : ∀ t : Fin grid0.N, _)
theorem index_rs : ∀ t : Fin cfg0.N, win0_4.index t = ![t.val, 0] := (by decide +kernel : ∀ t : Fin grid0.N, _)
theorem index_cc : ∀ t : Fin cfg0.N, win0_5.index t = ![0, t.val] := (by decide +kernel : ∀ t : Fin grid0.N, _)

theorem xBlk_apply (c : Dev nD) (t : Fin cfg0.N) (r : Fin 128) (q : Fin 6656) :
    xBlk m c t (ix2 r q) = m ((c : Thread nD τ).loc main_arg0) (ix2 (at128 hrows (blockOf t) r) q) := by
  show V m c main_arg0 (((cfg0.win 0).blk t).view.emb (ix2 r q)) = _
  rw [V_main_arg0]
  refine congrArg _ (funext fun ax => Fin.ext ?_)
  match ax with
  | ⟨0, _⟩ =>
    show win0_0.index t (0 : Fin 2) * 128 + 1 * r.val = 128 * t.val + r.val
    rw [index_in0]; show t.val * 128 + 1 * r.val = _; omega
  | ⟨1, _⟩ =>
    show win0_0.index t (1 : Fin 2) * 6656 + 1 * q.val = q.val
    rw [index_in0]; show 0 * 6656 + 1 * q.val = _; omega

theorem gBlk_apply (c : Dev nD) (t : Fin cfg0.N) (r : Fin 128) (q : Fin 6656) :
    gBlk m c t (ix2 r q) = m ((c : Thread nD τ).loc main_arg1) (ix2 (at128 hrows (blockOf t) r) q) := by
  show V m c main_arg1 (((cfg0.win 1).blk t).view.emb (ix2 r q)) = _
  rw [V_main_arg1]
  refine congrArg _ (funext fun ax => Fin.ext ?_)
  match ax with
  | ⟨0, _⟩ =>
    show win0_1.index t (0 : Fin 2) * 128 + 1 * r.val = 128 * t.val + r.val
    rw [index_in1]; show t.val * 128 + 1 * r.val = _; omega
  | ⟨1, _⟩ =>
    show win0_1.index t (1 : Fin 2) * 6656 + 1 * q.val = q.val
    rw [index_in1]; show 0 * 6656 + 1 * q.val = _; omega

/-! ## One block -/

/-- A tile of the gradient is its part of the gradient. -/
theorem tile_apply (c : Dev nD) (t : Fin cfg0.N) (j : Fin 52) (r l : Fin 128) :
    dTile (xBlk m c t) (gBlk m c t) j (ix2 r l) = gr m c (at128 hrows (blockOf t) r) (at128 hcols j l) := by
  rw [dTile_apply, xBlk_apply, gBlk_apply]; rfl

/-- The same at a column of the block. -/
theorem tile_at (c : Dev nD) (t : Fin cfg0.N) (r : Fin 128) (q : Fin 6656) :
    dTile (xBlk m c t) (gBlk m c t) (tileOf q) (ix2 r (laneOf q)) = gr m c (at128 hrows (blockOf t) r) q :=
  (tile_apply m c t _ r _).trans (congrArg (gr m c _) (at128_tile hcols q))

theorem rowMax_at (c : Dev nD) (t : Fin cfg0.N) (r : Fin 128) (j : Fin 52) :
    (groupMax fun k => dTile (xBlk m c t) (gBlk m c t) j (ix2 r k)) = maxAt hcols (gr m c (at128 hrows (blockOf t) r)) j :=
  congrArg groupMax (funext fun k => tile_apply m c t j r k)
theorem colMax_at (c : Dev nD) (t : Fin cfg0.N) (q : Fin 6656) :
    (groupMax fun k => dTile (xBlk m c t) (gBlk m c t) (tileOf q) (ix2 k (laneOf q))) = maxAt hrows (fun r => gr m c r q) (blockOf t) :=
  congrArg groupMax (funext fun k => tile_at m c t k q)

theorem rcOf_apply (c : Dev nD) (t : Fin cfg0.N) (r : Fin 128) (q : Fin 6656) :
    rcOf (xBlk m c t) (gBlk m c t) (ix2 r q)
      = code (gr m c (at128 hrows (blockOf t) r) q) (invK (maxAt hcols (gr m c (at128 hrows (blockOf t) r)) (Spec.tile hcols q))) :=
  (rowCodes_apply _ _ _).trans (congrArg₂ code (tile_at m c t r q) (congrArg invK (rowMax_at m c t r _)))

theorem rsOf_apply (c : Dev nD) (t : Fin cfg0.N) (r : Fin 128) (j : Fin 52) :
    rsOf (xBlk m c t) (gBlk m c t) (ix2 r j) = scaleK (maxAt hcols (gr m c (at128 hrows (blockOf t) r)) j) :=
  (rowScale_apply _ _).trans (congrArg scaleK (rowMax_at m c t r j))

theorem ccOf_apply (c : Dev nD) (t : Fin cfg0.N) (q : Fin 6656) (r : Fin 128) :
    ccOf (xBlk m c t) (gBlk m c t) (ix2 q r)
      = code (gr m c (at128 hrows (blockOf t) r) q) (invK (maxAt hrows (fun r => gr m c r q) (blockOf t))) :=
  (colCodes_apply _ _ _).trans (congrArg₂ code (tile_at m c t r q) (congrArg invK (colMax_at m c t q)))

theorem scaleRow_apply (c : Dev nD) (t : Fin cfg0.N) (q : Fin 6656) :
    scaleRow (xBlk m c t) (gBlk m c t) q = scaleK (maxAt hrows (fun r => gr m c r q) (blockOf t)) :=
  (colScale_apply _ _).trans (congrArg scaleK (colMax_at m c t q))

/-- One block adds its column sums to the bias gradient. -/
theorem dbOf_apply (c : Dev nD) (t : Fin cfg0.N) (old : Vec Ideal S1x6656 .f32) (q : Fin 6656) :
    dbOf (xBlk m c t) (gBlk m c t) old (ix2 (0 : Fin 1) q)
      = (old (ix2 (0 : Fin 1) q) : EReal) + ∑ k : Fin 128, gr m c (at128 hrows (blockOf t) k) q := by
  refine (dbNew_apply _ _ _).trans (congrArg₂ (· + · : EReal → EReal → EReal) (congrArg old (funext fun ax => Fin.ext ?_)) ?_)
  · match ax with
    | ⟨0, _⟩ => rfl
    | ⟨1, _⟩ =>
      show 128 * (q.val / 128) + 1 * (q.val % 128) = q.val
      have := Nat.div_add_mod q.val 128
      omega
  · exact Finset.sum_congr rfl fun k _ => tile_at m c t k q

/-! ## All blocks -/

/-- A block's column sum, of any block number. -/
def blockSum (c : Dev nD) (q : Fin 6656) (n : ℕ) : EReal :=
  if h : n < cfg0.N then ∑ k : Fin 128, gr m c (at128 hrows (blockOf ⟨n, h⟩) k) q else 0

/-- The bias gradient before point `n` is the sum of the blocks below. -/
theorem dbAt_apply (c : Dev nD) (q : Fin 6656) (n : ℕ) :
    (dbAt m c n (ix2 (0 : Fin 1) q) : EReal) = ∑ t ∈ Finset.range n, blockSum m c q t := by
  induction n with
  | zero => exact Ideal.ofBits_zero_f32
  | succ n ih =>
    rw [Finset.sum_range_succ, ← ih]
    by_cases h : n < cfg0.N
    · rw [show dbAt m c (n + 1) = _ from dbAt_succ m c ⟨n, h⟩, dbOf_apply]
      unfold blockSum; rw [dif_pos h]
    · rw [show dbAt m c (n + 1) = dbAt m c n from dif_neg h]
      unfold blockSum; rw [dif_neg h, add_zero]

/-- After all of them it is the sum over all rows. -/
theorem dbAt_last (c : Dev nD) (q : Fin 6656) : (dbAt m c 152 (ix2 (0 : Fin 1) q) : EReal) = ∑ r, gr m c r q := by
  rw [dbAt_apply, Finset.sum_range, sum_blocks]
  refine Finset.sum_congr rfl fun t _ => ?_
  unfold blockSum
  rw [dif_pos (lt_of_lt_of_eq t.isLt N_0.symm)]
  rfl

/-- The scratch turned: each column's scales. -/
theorem turned_apply (c : Dev nD) (q : Fin 6656) (t : Fin 152) :
    turned (scales m c) (ix2 q t) = scaleK (maxAt hrows (fun r => gr m c r q) t) := by
  unfold turned
  refine (transpose_ix2_apply _ _ q t).trans ((shapeCast_apply _ _ _ (ix3 t (0 : Fin 1) q) ?_).trans ?_)
  · rw [Shape.rowMajor_val_two, Shape.rowMajor_val_three]
    show (t.val * 1 + 0) * 6656 + q.val = t.val * 6656 + q.val
    omega
  · exact scaleRow_apply m c ⟨t.val, lt_of_lt_of_eq t.isLt N_0.symm⟩ q

/-! ## The arrays -/

theorem tile_at128 (t : Fin 152) (r : Fin 128) : Spec.tile hrows (at128 hrows t r) = t := by
  apply Fin.ext; show (128 * t.val + r.val) / 128 = t.val; omega

/-- The row codes. -/
theorem final_rc (c : Dev nD) : (dats m 0 c).arrAt 3 cfg0.N = rc invK (gr m c) := by
  refine (dats m 0 c).arrAt_eq_of_covers 3 _ (by decide +kernel) fun t _ y => ?_
  blk_simp
  rw [after0_3]
  obtain ⟨r, q, rfl⟩ : ∃ (r : Fin 128) (q : Fin 6656), y = ix2 r q := ⟨_, _, eq_ix2 y⟩
  refine (rcOf_apply m c t r q).trans ?_
  have e : (win0_3.blk t).view.emb (ix2 r q) = ix2 (at128 hrows (blockOf t) r) q := by
    funext ax; apply Fin.ext
    match ax with
    | ⟨0, _⟩ =>
      show win0_3.index t (0 : Fin 2) * 128 + 1 * r.val = 128 * t.val + r.val
      rw [index_rc]; show t.val * 128 + 1 * r.val = _; omega
    | ⟨1, _⟩ =>
      show win0_3.index t (1 : Fin 2) * 6656 + 1 * q.val = q.val
      rw [index_rc]; show 0 * 6656 + 1 * q.val = _; omega
  exact (congrArg (rc invK (gr m c)) e).symm

/-- The row scales. -/
theorem final_rs (c : Dev nD) : (dats m 0 c).arrAt 4 cfg0.N = rs scaleK (gr m c) := by
  refine (dats m 0 c).arrAt_eq_of_covers 4 _ (by decide +kernel) fun t _ y => ?_
  blk_simp
  rw [after0_4]
  obtain ⟨r, j, rfl⟩ : ∃ (r : Fin 128) (j : Fin 52), y = ix2 r j := ⟨_, _, eq_ix2 y⟩
  refine (rsOf_apply m c t r j).trans ?_
  have e : (win0_4.blk t).view.emb (ix2 r j) = ix2 (at128 hrows (blockOf t) r) j := by
    funext ax; apply Fin.ext
    match ax with
    | ⟨0, _⟩ =>
      show win0_4.index t (0 : Fin 2) * 128 + 1 * r.val = 128 * t.val + r.val
      rw [index_rs]; show t.val * 128 + 1 * r.val = _; omega
    | ⟨1, _⟩ =>
      show win0_4.index t (1 : Fin 2) * 52 + 1 * j.val = j.val
      rw [index_rs]; show 0 * 52 + 1 * j.val = _; omega
  exact (congrArg (rs scaleK (gr m c)) e).symm

/-- The column codes. -/
theorem final_cc (c : Dev nD) : (dats m 0 c).arrAt 5 cfg0.N = cc invK (gr m c) := by
  refine (dats m 0 c).arrAt_eq_of_covers 5 _ (by decide +kernel) fun t _ y => ?_
  blk_simp
  rw [after0_5]
  obtain ⟨q, r, rfl⟩ : ∃ (q : Fin 6656) (r : Fin 128), y = ix2 q r := ⟨_, _, eq_ix2 y⟩
  refine (ccOf_apply m c t q r).trans ?_
  have e : (win0_5.blk t).view.emb (ix2 q r) = ix2 q (at128 hrows (blockOf t) r) := by
    funext ax; apply Fin.ext
    match ax with
    | ⟨0, _⟩ =>
      show win0_5.index t (0 : Fin 2) * 6656 + 1 * q.val = q.val
      rw [index_cc]; show 0 * 6656 + 1 * q.val = _; omega
    | ⟨1, _⟩ =>
      show win0_5.index t (1 : Fin 2) * 128 + 1 * r.val = 128 * t.val + r.val
      rw [index_cc]; show t.val * 128 + 1 * r.val = _; omega
  refine Eq.trans ?_ (congrArg (cc invK (gr m c)) e).symm
  show _ = code _ (invK (maxAt hrows (fun r => gr m c r q) (Spec.tile hrows (at128 hrows (blockOf t) r))))
  rw [tile_at128]

/-- The last point. -/
def tLast : Fin cfg0.N := ⟨151, lt_of_lt_of_eq (by norm_num) N_0.symm⟩

/-- The bias gradient. -/
theorem final_db (c : Dev nD) : (dats m 0 c).arrAt 2 cfg0.N = db (gr m c) := by
  refine (dats m 0 c).arrAt_eq_of_after_last 2 tLast (by decide +kernel) _ fun j => ?_
  blk_simp
  rw [after0_2]
  obtain ⟨u, q, rfl⟩ : ∃ (u : Fin 1) (q : Fin 6656), j = ix2 u q := ⟨_, _, eq_ix2 j⟩
  obtain rfl : u = 0 := Subsingleton.elim _ _
  exact dbAt_last m c q

/-- The column scales. -/
theorem final_cs (c : Dev nD) : (dats m 0 c).arrAt 6 cfg0.N = cs scaleK (gr m c) := by
  refine (dats m 0 c).arrAt_eq_of_after_last 6 tLast (by decide +kernel) _ fun j => ?_
  blk_simp
  rw [after0_6]
  obtain ⟨q, t, rfl⟩ : ∃ (q : Fin 6656) (t : Fin 152), j = ix2 q t := ⟨_, _, eq_ix2 j⟩
  exact turned_apply m c q t

/-! ## The run -/

/-- The kernel leaves the five results in its five arrays, and its arguments unchanged. -/
theorem run_values : θ_run defs (onTc (τ := τ) (main (F := Ideal))) ⟨m, fun _ => 0, ρ⟩ fun r => ∀ c : Dev nD,
      r.2.mem ((c : Thread nD τ).loc main_v0_0) = db (gr m c)
      ∧ r.2.mem ((c : Thread nD τ).loc main_v0_1) = rc invK (gr m c)
      ∧ r.2.mem ((c : Thread nD τ).loc main_v0_2) = rs scaleK (gr m c)
      ∧ r.2.mem ((c : Thread nD τ).loc main_v0_3) = cc invK (gr m c)
      ∧ r.2.mem ((c : Thread nD τ).loc main_v0_4) = cs scaleK (gr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.out_eq c 2).trans (final_db m c), (h.1.out_eq c 3).trans (final_rc m c),
      (h.1.out_eq c 4).trans (final_rs m c), (h.1.out_eq c 5).trans (final_cc m c), (h.1.out_eq c 6).trans (final_cs m c), h.2 c⟩)
    (θ_run_and (run_main m ρ) (unchanged m ρ))

end Cert.KernelIdeal.Hand

end
-- ==== Proof.RefValue.lean ====
/- What the reference computes, element by element: its five arrays are the five results of the gelu's gradient. -/
module

public import proofs.«01_k».proof.Proof.Spec
public import proofs.«01_k».proof.Proof.Gen.ReferenceIdeal.Value

@[expose] public section

noncomputable section

namespace Cert.ReferenceIdeal.Hand

open Idealize.ShloMosaic Idealize.ShloMosaic.ValueIdx Idealize.ShloMosaic.TcCoe Idealize.SL.Sem
open Cert.ReferenceIdeal Cert.ReferenceIdeal.Gen Cert.ReferenceIdeal.Value Cert.Maths Cert.Spec

theorem named_k : Named.named (F := Ideal) (φ := .f32) κ "gelu_k" 0x3F4C422A#32 = (K : EReal) :=
  IdealRules.named_const.ideal_named_scalar κ "gelu_k" _ _ rfl
theorem named_c : Named.named (F := Ideal) (φ := .f32) κ "gelu_c" 0x3D372713#32 = (C : EReal) :=
  IdealRules.named_const.ideal_named_scalar κ "gelu_c" _ _ rfl
theorem named_3c : Named.named (F := Ideal) (φ := .f32) κ "gelu_3c" 0x3E095D4F#32 = ((3 * C : ℝ) : EReal) :=
  (IdealRules.named_const.ideal_named_scalar κ "gelu_3c" _ _ rfl).trans (by unfold C; norm_num)

variable (X G : Vec Ideal S19456x6656 .bf16)

/-- The gradient's array. -/
theorem grad_apply (r : Fin 19456) (q : Fin 6656) : k0_pay4 (F := Ideal) X G (ix2 r q) = grad X G r q := by
  show (G (ix2 r q) : EReal) * slopeR (Named.named (F := Ideal) (φ := .f32) κ "gelu_k" 0x3F4C422A#32)
    (Named.named (F := Ideal) (φ := .f32) κ "gelu_c" 0x3D372713#32) (Named.named (F := Ideal) (φ := .f32) κ "gelu_3c" 0x3E095D4F#32) (X (ix2 r q)) = _
  rw [named_k, named_c, named_3c]
  rfl

theorem pay16_eq : k0_pay16 (F := Ideal) X G = k0_pay4 X G := by
  unfold k0_pay16
  rw [View.ld_unit_zero (S := S19456x6656) hz0 _ X, View.ld_unit_zero (S := S19456x6656) hz0 _ G]
theorem pay17_eq : k0_pay17 (F := Ideal) X G = k0_pay7 X G := by
  unfold k0_pay17
  rw [View.ld_unit_zero (S := S19456x6656) hz0 _ X, View.ld_unit_zero (S := S19456x6656) hz0 _ G]

/-! ## The bias gradient -/

theorem bias_eq : G2 (F := Ideal) X G = db (grad X G) := by
  funext y
  obtain ⟨u, q, rfl⟩ : ∃ (u : Fin 1) (q : Fin 6656), y = ix2 u q := ⟨_, _, eq_ix2 y⟩
  show k0_pay5 X G (ix2 u q) = _
  unfold k0_pay5
  refine (shapeCast_a_1a_apply _ _ u q).trans ((sumCols_apply _ _ _ _ q).trans ?_)
  exact Finset.sum_congr rfl fun r _ => grad_apply X G r q

/-! ## By rows -/

theorem rows_apply (r : Fin 19456) (j : Fin 52) (k : Fin 128) : k0_pay6 (F := Ideal) X G (ix3 r j k) = grad X G r (at128 hcols j k) :=
  (group_apply hcols _ _ r j k).trans (grad_apply X G r _)

theorem pay7_apply (y : S19456x52.Idx) : k0_pay7 (F := Ideal) X G y = ratio (multiReduction (F := Ideal) .maximumf [2] S19456x52
    (absf (k0_pay6 X G)) 0xFF800000#32 reduces_S19456x52x128_S19456x52 (.inl rfl) rfl y) := by
  unfold k0_pay7
  exact ratio_apply _ _

/-- The largest magnitude of each group of a row, over the format's largest value. -/
theorem rowRatio_apply (r : Fin 19456) (j : Fin 52) : k0_pay17 (F := Ideal) X G (ix2 r j) = ratio (maxAt hcols (grad X G r) j) := by
  rw [pay17_eq]
  refine (pay7_apply X G _).trans (congrArg ratio ((max3_apply _ _ _ _ r j).trans ?_))
  exact congrArg groupMax (funext fun k => rows_apply X G r j k)

theorem pay8_apply (v : FVec Ideal S19456x52 .f32) (y : S19456x52.Idx) :
    k0_pay8 v (Scalar.ofBits .f32 0x00000000#32) y = expoOf (v y) := by
  unfold k0_pay8
  exact expo_apply _ _

theorem rowExpo_apply (r : Fin 19456) (j : Fin 52) :
    k0_pay8 (F := Ideal) (k0_pay17 X G) (Scalar.ofBits .f32 0x00000000#32) (ix2 r j) = expo (maxAt hcols (grad X G r) j) :=
  (pay8_apply _ _).trans (congrArg expoOf (rowRatio_apply X G r j))

theorem rowScales_eq : G4 (F := Ideal) X G = rs scaleR (grad X G) := by
  funext y
  obtain ⟨r, j, rfl⟩ : ∃ (r : Fin 19456) (j : Fin 52), y = ix2 r j := ⟨_, _, eq_ix2 y⟩
  show k0_pay9 (F := Ideal) _ _ (ix2 r j) = scaleR (maxAt hcols (grad X G r) j)
  unfold k0_pay9 scaleR
  exact (exp2_apply _ _).trans (congrArg Ideal.exp2 (rowExpo_apply X G r j))

theorem rowCodes_eq : G3 (F := Ideal) X G = rc invR (grad X G) := by
  funext y
  obtain ⟨r, q, rfl⟩ : ∃ (r : Fin 19456) (q : Fin 6656), y = ix2 r q := ⟨_, _, eq_ix2 y⟩
  show k0_pay10 (F := Ideal) _ _ _ (ix2 r q) = code (grad X G r q) (invR (maxAt hcols (grad X G r) (tile hcols q)))
  unfold k0_pay10
  refine (ungroup_apply hcols _ _ r q).trans ((code_apply _ _ _ _).trans ?_)
  refine congrArg₂ code ?_ ?_
  · exact (rows_apply X G r _ _).trans (congrArg (grad X G r) (at128_tile hcols q))
  · unfold invR
    refine (perGroup_apply _ _ _ r _ _).trans ((inv_apply _ _).trans ?_)
    rw [rowExpo_apply X G r _]

/-! ## By columns -/

theorem cols_apply (q : Fin 6656) (t : Fin 152) (k : Fin 128) :
    k0_pay11 (F := Ideal) (k0_pay16 X G) (ix3 q t k) = grad X G (at128 hrows t k) q := by
  rw [pay16_eq]
  unfold k0_pay11
  exact (group_apply hrows _ _ q t k).trans ((transpose_ix2_apply _ _ q _).trans (grad_apply X G _ q))

theorem pay12_apply (d : FVec Ideal S19456x6656 .f32) (y : S6656x152.Idx) : k0_pay12 (F := Ideal) d y
    = ratio (multiReduction (F := Ideal) .maximumf [2] S6656x152 (absf (k0_pay11 d)) 0xFF800000#32 reduces_S6656x152x128_S6656x152 (.inl rfl) rfl y) := by
  unfold k0_pay12
  exact ratio_apply _ _

theorem colRatio_apply (q : Fin 6656) (t : Fin 152) :
    k0_pay12 (F := Ideal) (k0_pay16 X G) (ix2 q t) = ratio (maxAt hrows (fun r => grad X G r q) t) := by
  refine (pay12_apply _ _).trans (congrArg ratio ((max3_apply _ _ _ _ q t).trans ?_))
  exact congrArg groupMax (funext fun k => cols_apply X G q t k)

theorem pay1_apply (d : FVec Ideal S19456x6656 .f32) (y : S6656x152.Idx) :
    k0_pay1 (k0_pay13 d) (k0_pay14 d) k0_pay15 y = expoOf (k0_pay12 d y) := by
  unfold k0_pay1 k0_pay13 k0_pay14 k0_pay15
  exact expo_apply _ _

theorem colExpo_apply (q : Fin 6656) (t : Fin 152) :
    k0_pay1 (F := Ideal) (k0_pay18 X G) (k0_pay19 X G) (k0_pay20 X G) (ix2 q t) = expo (maxAt hrows (fun r => grad X G r q) t) :=
  (pay1_apply _ _).trans (congrArg expoOf (colRatio_apply X G q t))

theorem colScales_eq : G6 (F := Ideal) X G = cs scaleR (grad X G) := by
  funext y
  obtain ⟨q, t, rfl⟩ : ∃ (q : Fin 6656) (t : Fin 152), y = ix2 q t := ⟨_, _, eq_ix2 y⟩
  show k0_pay2 (F := Ideal) _ _ _ (ix2 q t) = scaleR (maxAt hrows (fun r => grad X G r q) t)
  unfold k0_pay2 scaleR
  exact (exp2_apply _ _).trans (congrArg Ideal.exp2 (colExpo_apply X G q t))

theorem colCodes_eq : G5 (F := Ideal) X G = cc invR (grad X G) := by
  funext y
  obtain ⟨q, r, rfl⟩ : ∃ (q : Fin 6656) (r : Fin 19456), y = ix2 q r := ⟨_, _, eq_ix2 y⟩
  show k0_pay3 (F := Ideal) _ _ _ _ (ix2 q r) = code (grad X G r q) (invR (maxAt hrows (fun r => grad X G r q) (tile hrows r)))
  unfold k0_pay3
  refine (ungroup_apply hrows _ _ q r).trans ((code_apply _ _ _ _).trans ?_)
  refine congrArg₂ code ?_ ?_
  · exact (cols_apply X G q _ _).trans (congrArg (fun r => grad X G r q) (at128_tile hrows r))
  · unfold invR
    refine (perGroup_apply _ _ _ q _ _).trans ((inv_apply _ _).trans ?_)
    rw [colExpo_apply X G q _]

/-! ## The run -/

variable (m : (ℓ : Loc nD τ sig) → Buf (Elt Ideal) ℓ) (ρ : Dev nD → PrngReg)

/-- The reference leaves the five results in its five arrays, and its arguments unchanged. -/
theorem run : θ_run defs (onTc (τ := τ) (main (F := Ideal))) ⟨m, fun _ => 0, ρ⟩ fun r => ∀ c : Dev nD,
      r.2.mem ((c : Thread nD τ).loc main_v0_0) = db (grad (m ((c : Thread nD τ).loc main_arg0)) (m ((c : Thread nD τ).loc main_arg1)))
      ∧ r.2.mem ((c : Thread nD τ).loc main_v0_1) = rc invR (grad (m ((c : Thread nD τ).loc main_arg0)) (m ((c : Thread nD τ).loc main_arg1)))
      ∧ r.2.mem ((c : Thread nD τ).loc main_v0_2) = rs scaleR (grad (m ((c : Thread nD τ).loc main_arg0)) (m ((c : Thread nD τ).loc main_arg1)))
      ∧ r.2.mem ((c : Thread nD τ).loc main_v0_3) = cc invR (grad (m ((c : Thread nD τ).loc main_arg0)) (m ((c : Thread nD τ).loc main_arg1)))
      ∧ r.2.mem ((c : Thread nD τ).loc main_v0_4) = cs scaleR (grad (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
      obtain ⟨h0, h1, h2, h3, h4, ha⟩ := h c
      exact ⟨h0.trans (bias_eq _ _), h1.trans (rowCodes_eq _ _), h2.trans (rowScales_eq _ _), h3.trans (colCodes_eq _ _),
        h4.trans (colScales_eq _ _), ha⟩)
    (Value.run (F := Ideal) m ρ)

end Cert.ReferenceIdeal.Hand

end
-- ==== Proof.Equal.lean ====
/- The idealized kernel and the idealized reference compute equal results: both leave the same five functions of the
   gelu's gradient, the scales and their reciprocals once in the kernel's form and once in the reference's. -/
module

public import proofs.«01_k».proof.Proof.Arrays
public import proofs.«01_k».proof.Proof.RefValue
public import proofs.«01_k».proof.Defs

@[expose] public section

noncomputable section

namespace Cert.Proof

open Idealize.ShloMosaic Idealize.SL.Sem Cert.Maths Cert.Spec

/-- The kernel and the reference agree on all five results. -/
theorem algebraic : @algebraic_KernelIdeal_ReferenceIdeal Cert.KernelIdeal.Gen.facts Cert.ReferenceIdeal.Gen.facts := by
  intro m g m' g' _ hagree
  refine ⟨fun c => db (Cert.KernelIdeal.Hand.gr m c), fun c => rc invK (Cert.KernelIdeal.Hand.gr m c),
    fun c => rs scaleK (Cert.KernelIdeal.Hand.gr m c), fun c => cc invK (Cert.KernelIdeal.Hand.gr m c),
    fun c => cs scaleK (Cert.KernelIdeal.Hand.gr m c), Cert.KernelIdeal.Hand.run_values m g, ?_⟩
  refine (θ_run Cert.ReferenceIdeal.defs _ _).mono (fun r h c => ?_) (Cert.ReferenceIdeal.Hand.run m' g')
  obtain ⟨h0, h1, h2, h3, h4, ha⟩ := h c
  have e := congrArg₂ grad (hagree c).1 (hagree c).2
  exact ⟨h0.trans (congrArg db e), h1.trans ((congrArg (rc invR) e).trans (rc_eq _).symm),
    h2.trans ((congrArg (rs scaleR) e).trans (rs_eq _).symm), h3.trans ((congrArg (cc invR) e).trans (cc_eq _).symm),
    h4.trans ((congrArg (cs scaleR) e).trans (cs_eq _).symm), ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.KernelFrame.Frame
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The idealized kernel is the kernel but for its named constants. -/
theorem preserves_kernel : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The idealized reference is the reference but for its named constants. -/
theorem preserves_reference : preserves_Reference_ReferenceIdeal :=
  ⟨IdealRules.named_const.statement _ _ _ _ _ rfl, IdealRules.named_const.statement _ _ _ _ _ rfl,
    IdealRules.named_const.statement _ _ _ _ _ rfl⟩

/-- All claims: the four frames, the two idealizations and the equation of the results. -/
theorem claim : Cert.Claim := ⟨Cert.Kernel.Gen.facts, Cert.KernelIdeal.Gen.facts, Cert.ReferenceIdeal.Gen.facts, Cert.Reference.Gen.facts,
  fun m g _ => Cert.Kernel.Hand.frame m g, fun m g _ => Cert.KernelIdeal.Hand.frame m g,
  fun m g _ => Cert.ReferenceIdeal.Gen.frame m g, fun m g _ => Cert.Reference.Gen.frame m g,
  preserves_kernel, preserves_reference, algebraic⟩

end Cert.Proof

end
